-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x8x2 : Shape := ⟨3, ![16384, 8, 2]⟩
abbrev S16384x128x8x2 : Shape := ⟨4, ![16384, 128, 8, 2]⟩
abbrev S16384x2048 : Shape := ⟨2, ![16384, 2048]⟩
abbrev S16384x24 : Shape := ⟨2, ![16384, 24]⟩
abbrev S16384x128 : Shape := ⟨2, ![16384, 128]⟩
abbrev S2x16x2048 : Shape := ⟨3, ![2, 16, 2048]⟩
abbrev S40x16 : Shape := ⟨2, ![40, 16]⟩
abbrev S16x128 : Shape := ⟨2, ![16, 128]⟩
abbrev S16x24 : Shape := ⟨2, ![16, 24]⟩
abbrev S_ : Shape := ⟨0, ![]⟩
abbrev S16 : Shape := ⟨1, ![16]⟩
abbrev S1x16x2048 : Shape := ⟨3, ![1, 16, 2048]⟩
abbrev S16x2048 : Shape := ⟨2, ![16, 2048]⟩
abbrev S1x16 : Shape := ⟨2, ![1, 16]⟩
abbrev S16384x8x3 : Shape := ⟨3, ![16384, 8, 3]⟩

abbrev nBuf : Table → Nat
  | .hbm => 6
  | .local .scVector .vmem => 4
  | _ => 0

abbrev bufTy : (tb : Table) → Fin (nBuf tb) → BufTy
  | .hbm, ⟨0, _⟩ => ⟨S16384x8x2, .f32⟩
  | .hbm, ⟨1, _⟩ => ⟨S16384x128x8x2, .f32⟩
  | .hbm, ⟨2, _⟩ => ⟨S16384x2048, .f32⟩
  | .hbm, ⟨3, _⟩ => ⟨S16384x24, .f32⟩
  | .hbm, ⟨4, _⟩ => ⟨S16384x128, .f32⟩
  | .hbm, ⟨5, _⟩ => ⟨S16384x8x3, .f32⟩
  | .local .scVector .vmem, ⟨0, _⟩ => ⟨S2x16x2048, .f32⟩
  | .local .scVector .vmem, ⟨1, _⟩ => ⟨S40x16, .f32⟩
  | .local .scVector .vmem, ⟨2, _⟩ => ⟨S16x128, .f32⟩
  | .local .scVector .vmem, ⟨3, _⟩ => ⟨S16x24, .f32⟩
  | _, _ => ⟨S16384x8x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_2 : BitVec 32 := 0#32
  let v22 : BitVec 32 := Scalar.addi v2 c0_i32_2
  let c0_i32_6 : BitVec 32 := 0#32
  ![v22.toNat, 0]
@[reducible] def k0_t1_loop : Scf.Loop 32 :=
  let c0_i32_10 : BitVec 32 := 0#32
  let c16_i32 : BitVec 32 := 16#32
  let v29 : BitVec 32 := Scalar.addi c0_i32_10 c16_i32
  let c1_i32_11 : BitVec 32 := 1#32
  ⟨c0_i32_10, v29, c1_i32_11⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c16_i32_14 : BitVec 32 := 16#32
  let v31 : BitVec 32 := Scalar.muli v30 c16_i32_14
  let v32 : BitVec 32 := Scalar.addi v2 v31
  let c0_i32_18 : BitVec 32 := 0#32
  ![v32.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c1_i32_22 : BitVec 32 := 1#32
  let v39 : BitVec 32 := Scalar.addi v30 c1_i32_22
  let c16_i32_23 : BitVec 32 := 16#32
  let v40 : BitVec 32 := Scalar.muli v39 c16_i32_23
  let v41 : BitVec 32 := Scalar.addi v2 v40
  let c0_i32_27 : BitVec 32 := 0#32
  ![v41.toNat, 0]
@[reducible] def k0_t2_loop : Scf.Loop 32 :=
  let c0_i32_85 : BitVec 32 := 0#32
  let c128_i32 : BitVec 32 := 128#32
  let v122 : BitVec 32 := Scalar.addi c0_i32_85 c128_i32
  let c1_i32_86 : BitVec 32 := 1#32
  ⟨c0_i32_85, v122, c1_i32_86⟩

def k0_chk1 (v3 : IVec S16 32) (v472 : IVec S16 32) : Prop :=
  (∀ a x, ((![v3, v472] : Fin 2 → IVec S16 32) a x).toNat < S16x2048.size a)
theorem k0_idx1_inb : ∀ (v3 : IVec S16 32) (v472 : IVec S16 32) (k0_hw1 : k0_chk1 v3 v472), ∀ a x, ((![v3, v472] : Fin 2 → IVec S16 32) a x).toNat < S16x2048.size a := fun v3 v472 k0_hw1 => k0_hw1

def k0_chk2 (v3 : IVec S16 32) (v476 : IVec S16 32) : Prop :=
  (∀ a x, ((![v3, v476] : Fin 2 → IVec S16 32) a x).toNat < S16x2048.size a)
theorem k0_idx2_inb : ∀ (v3 : IVec S16 32) (v476 : IVec S16 32) (k0_hw2 : k0_chk2 v3 v476), ∀ a x, ((![v3, v476] : Fin 2 → IVec S16 32) a x).toNat < S16x2048.size a := fun v3 v476 k0_hw2 => k0_hw2

def k0_chk3 (v3 : IVec S16 32) (v480 : IVec S16 32) : Prop :=
  (∀ a x, ((![v3, v480] : Fin 2 → IVec S16 32) a x).toNat < S16x2048.size a)
theorem k0_idx3_inb : ∀ (v3 : IVec S16 32) (v480 : IVec S16 32) (k0_hw3 : k0_chk3 v3 v480), ∀ a x, ((![v3, v480] : Fin 2 → IVec S16 32) a x).toNat < S16x2048.size a := fun v3 v480 k0_hw3 => k0_hw3

def k0_chk4 (v3 : IVec S16 32) (v484 : IVec S16 32) : Prop :=
  (∀ a x, ((![v3, v484] : Fin 2 → IVec S16 32) a x).toNat < S16x2048.size a)
theorem k0_idx4_inb : ∀ (v3 : IVec S16 32) (v484 : IVec S16 32) (k0_hw4 : k0_chk4 v3 v484), ∀ a x, ((![v3, v484] : Fin 2 → IVec S16 32) a x).toNat < S16x2048.size a := fun v3 v484 k0_hw4 => k0_hw4

def k0_chk5 (v3 : IVec S16 32) (v488 : IVec S16 32) : Prop :=
  (∀ a x, ((![v3, v488] : Fin 2 → IVec S16 32) a x).toNat < S16x2048.size a)
theorem k0_idx5_inb : ∀ (v3 : IVec S16 32) (v488 : IVec S16 32) (k0_hw5 : k0_chk5 v3 v488), ∀ a x, ((![v3, v488] : Fin 2 → IVec S16 32) a x).toNat < S16x2048.size a := fun v3 v488 k0_hw5 => k0_hw5

def k0_chk6 (v3 : IVec S16 32) (v492 : IVec S16 32) : Prop :=
  (∀ a x, ((![v3, v492] : Fin 2 → IVec S16 32) a x).toNat < S16x2048.size a)
theorem k0_idx6_inb : ∀ (v3 : IVec S16 32) (v492 : IVec S16 32) (k0_hw6 : k0_chk6 v3 v492), ∀ a x, ((![v3, v492] : Fin 2 → IVec S16 32) a x).toNat < S16x2048.size a := fun v3 v492 k0_hw6 => k0_hw6

def k0_chk7 (v3 : IVec S16 32) (v496 : IVec S16 32) : Prop :=
  (∀ a x, ((![v3, v496] : Fin 2 → IVec S16 32) a x).toNat < S16x2048.size a)
theorem k0_idx7_inb : ∀ (v3 : IVec S16 32) (v496 : IVec S16 32) (k0_hw7 : k0_chk7 v3 v496), ∀ a x, ((![v3, v496] : Fin 2 → IVec S16 32) a x).toNat < S16x2048.size a := fun v3 v496 k0_hw7 => k0_hw7

def k0_chk8 (v3 : IVec S16 32) (v500 : IVec S16 32) : Prop :=
  (∀ a x, ((![v3, v500] : Fin 2 → IVec S16 32) a x).toNat < S16x2048.size a)
theorem k0_idx8_inb : ∀ (v3 : IVec S16 32) (v500 : IVec S16 32) (k0_hw8 : k0_chk8 v3 v500), ∀ a x, ((![v3, v500] : Fin 2 → IVec S16 32) a x).toNat < S16x2048.size a := fun v3 v500 k0_hw8 => k0_hw8

def k0_chk9 (v3 : IVec S16 32) (v504 : IVec S16 32) : Prop :=
  (∀ a x, ((![v3, v504] : Fin 2 → IVec S16 32) a x).toNat < S16x2048.size a)
theorem k0_idx9_inb : ∀ (v3 : IVec S16 32) (v504 : IVec S16 32) (k0_hw9 : k0_chk9 v3 v504), ∀ a x, ((![v3, v504] : Fin 2 → IVec S16 32) a x).toNat < S16x2048.size a := fun v3 v504 k0_hw9 => k0_hw9

def k0_chk10 (v3 : IVec S16 32) (v508 : IVec S16 32) : Prop :=
  (∀ a x, ((![v3, v508] : Fin 2 → IVec S16 32) a x).toNat < S16x2048.size a)
theorem k0_idx10_inb : ∀ (v3 : IVec S16 32) (v508 : IVec S16 32) (k0_hw10 : k0_chk10 v3 v508), ∀ a x, ((![v3, v508] : Fin 2 → IVec S16 32) a x).toNat < S16x2048.size a := fun v3 v508 k0_hw10 => k0_hw10

def k0_chk11 (v3 : IVec S16 32) (v512 : IVec S16 32) : Prop :=
  (∀ a x, ((![v3, v512] : Fin 2 → IVec S16 32) a x).toNat < S16x2048.size a)
theorem k0_idx11_inb : ∀ (v3 : IVec S16 32) (v512 : IVec S16 32) (k0_hw11 : k0_chk11 v3 v512), ∀ a x, ((![v3, v512] : Fin 2 → IVec S16 32) a x).toNat < S16x2048.size a := fun v3 v512 k0_hw11 => k0_hw11

def k0_chk12 (v3 : IVec S16 32) (v516 : IVec S16 32) : Prop :=
  (∀ a x, ((![v3, v516] : Fin 2 → IVec S16 32) a x).toNat < S16x2048.size a)
theorem k0_idx12_inb : ∀ (v3 : IVec S16 32) (v516 : IVec S16 32) (k0_hw12 : k0_chk12 v3 v516), ∀ a x, ((![v3, v516] : Fin 2 → IVec S16 32) a x).toNat < S16x2048.size a := fun v3 v516 k0_hw12 => k0_hw12

def k0_chk13 (v3 : IVec S16 32) (v520 : IVec S16 32) : Prop :=
  (∀ a x, ((![v3, v520] : Fin 2 → IVec S16 32) a x).toNat < S16x2048.size a)
theorem k0_idx13_inb : ∀ (v3 : IVec S16 32) (v520 : IVec S16 32) (k0_hw13 : k0_chk13 v3 v520), ∀ a x, ((![v3, v520] : Fin 2 → IVec S16 32) a x).toNat < S16x2048.size a := fun v3 v520 k0_hw13 => k0_hw13

def k0_chk14 (v3 : IVec S16 32) (v524 : IVec S16 32) : Prop :=
  (∀ a x, ((![v3, v524] : Fin 2 → IVec S16 32) a x).toNat < S16x2048.size a)
theorem k0_idx14_inb : ∀ (v3 : IVec S16 32) (v524 : IVec S16 32) (k0_hw14 : k0_chk14 v3 v524), ∀ a x, ((![v3, v524] : Fin 2 → IVec S16 32) a x).toNat < S16x2048.size a := fun v3 v524 k0_hw14 => k0_hw14

def k0_chk15 (v3 : IVec S16 32) (v528 : IVec S16 32) : Prop :=
  (∀ a x, ((![v3, v528] : Fin 2 → IVec S16 32) a x).toNat < S16x2048.size a)
theorem k0_idx15_inb : ∀ (v3 : IVec S16 32) (v528 : IVec S16 32) (k0_hw15 : k0_chk15 v3 v528), ∀ a x, ((![v3, v528] : Fin 2 → IVec S16 32) a x).toNat < S16x2048.size a := fun v3 v528 k0_hw15 => k0_hw15

def k0_chk16 (v3 : IVec S16 32) (v532 : IVec S16 32) : Prop :=
  (∀ a x, ((![v3, v532] : Fin 2 → IVec S16 32) a x).toNat < S16x2048.size a)
theorem k0_idx16_inb : ∀ (v3 : IVec S16 32) (v532 : IVec S16 32) (k0_hw16 : k0_chk16 v3 v532), ∀ a x, ((![v3, v532] : Fin 2 → IVec S16 32) a x).toNat < S16x2048.size a := fun v3 v532 k0_hw16 => k0_hw16

def k0_chk17 (v3 : IVec S16 32) (v633 : IVec S16 32) : Prop :=
  (∀ a x, ((![v633, v3] : Fin 2 → IVec S16 32) a x).toNat < S40x16.size a)
theorem k0_idx17_inb : ∀ (v3 : IVec S16 32) (v633 : IVec S16 32) (k0_hw17 : k0_chk17 v3 v633), ∀ a x, ((![v633, v3] : Fin 2 → IVec S16 32) a x).toNat < S40x16.size a := fun v3 v633 k0_hw17 => k0_hw17

def k0_chk18 (v3 : IVec S16 32) (v635 : IVec S16 32) : Prop :=
  (∀ a x, ((![v635, v3] : Fin 2 → IVec S16 32) a x).toNat < S40x16.size a)
theorem k0_idx18_inb : ∀ (v3 : IVec S16 32) (v635 : IVec S16 32) (k0_hw18 : k0_chk18 v3 v635), ∀ a x, ((![v635, v3] : Fin 2 → IVec S16 32) a x).toNat < S40x16.size a := fun v3 v635 k0_hw18 => k0_hw18

def k0_chk19 (v3 : IVec S16 32) (v637 : IVec S16 32) : Prop :=
  (∀ a x, ((![v637, v3] : Fin 2 → IVec S16 32) a x).toNat < S40x16.size a)
theorem k0_idx19_inb : ∀ (v3 : IVec S16 32) (v637 : IVec S16 32) (k0_hw19 : k0_chk19 v3 v637), ∀ a x, ((![v637, v3] : Fin 2 → IVec S16 32) a x).toNat < S40x16.size a := fun v3 v637 k0_hw19 => k0_hw19

def k0_chk20 (v3 : IVec S16 32) (v639 : IVec S16 32) : Prop :=
  (∀ a x, ((![v639, v3] : Fin 2 → IVec S16 32) a x).toNat < S40x16.size a)
theorem k0_idx20_inb : ∀ (v3 : IVec S16 32) (v639 : IVec S16 32) (k0_hw20 : k0_chk20 v3 v639), ∀ a x, ((![v639, v3] : Fin 2 → IVec S16 32) a x).toNat < S40x16.size a := fun v3 v639 k0_hw20 => k0_hw20

def k0_chk21 (v3 : IVec S16 32) (v640 : IVec S16 32) : Prop :=
  (∀ a x, ((![v3, v640] : Fin 2 → IVec S16 32) a x).toNat < S16x128.size a)
theorem k0_idx21_inb : ∀ (v3 : IVec S16 32) (v640 : IVec S16 32) (k0_hw21 : k0_chk21 v3 v640), ∀ a x, ((![v3, v640] : Fin 2 → IVec S16 32) a x).toNat < S16x128.size a := fun v3 v640 k0_hw21 => k0_hw21

def k0_chk22 (v3 : IVec S16 32) (v130 : IVec S16 32) : Prop :=
  (∀ a x, ((![v3, v130] : Fin 2 → IVec S16 32) a x).toNat < S16x24.size a)
theorem k0_idx22_inb : ∀ (v3 : IVec S16 32) (v130 : IVec S16 32) (k0_hw22 : k0_chk22 v3 v130), ∀ a x, ((![v3, v130] : Fin 2 → IVec S16 32) a x).toNat < S16x24.size a := fun v3 v130 k0_hw22 => k0_hw22

def k0_chk23 (v3 : IVec S16 32) (v134 : IVec S16 32) : Prop :=
  (∀ a x, ((![v3, v134] : Fin 2 → IVec S16 32) a x).toNat < S16x24.size a)
theorem k0_idx23_inb : ∀ (v3 : IVec S16 32) (v134 : IVec S16 32) (k0_hw23 : k0_chk23 v3 v134), ∀ a x, ((![v3, v134] : Fin 2 → IVec S16 32) a x).toNat < S16x24.size a := fun v3 v134 k0_hw23 => k0_hw23

def k0_chk24 (v3 : IVec S16 32) (v138 : IVec S16 32) : Prop :=
  (∀ a x, ((![v3, v138] : Fin 2 → IVec S16 32) a x).toNat < S16x24.size a)
theorem k0_idx24_inb : ∀ (v3 : IVec S16 32) (v138 : IVec S16 32) (k0_hw24 : k0_chk24 v3 v138), ∀ a x, ((![v3, v138] : Fin 2 → IVec S16 32) a x).toNat < S16x24.size a := fun v3 v138 k0_hw24 => k0_hw24

def k0_chk25 (v3 : IVec S16 32) (v146 : IVec S16 32) : Prop :=
  (∀ a x, ((![v3, v146] : Fin 2 → IVec S16 32) a x).toNat < S16x24.size a)
theorem k0_idx25_inb : ∀ (v3 : IVec S16 32) (v146 : IVec S16 32) (k0_hw25 : k0_chk25 v3 v146), ∀ a x, ((![v3, v146] : Fin 2 → IVec S16 32) a x).toNat < S16x24.size a := fun v3 v146 k0_hw25 => k0_hw25

def k0_chk26 (v3 : IVec S16 32) (v150 : IVec S16 32) : Prop :=
  (∀ a x, ((![v3, v150] : Fin 2 → IVec S16 32) a x).toNat < S16x24.size a)
theorem k0_idx26_inb : ∀ (v3 : IVec S16 32) (v150 : IVec S16 32) (k0_hw26 : k0_chk26 v3 v150), ∀ a x, ((![v3, v150] : Fin 2 → IVec S16 32) a x).toNat < S16x24.size a := fun v3 v150 k0_hw26 => k0_hw26

def k0_chk27 (v3 : IVec S16 32) (v154 : IVec S16 32) : Prop :=
  (∀ a x, ((![v3, v154] : Fin 2 → IVec S16 32) a x).toNat < S16x24.size a)
theorem k0_idx27_inb : ∀ (v3 : IVec S16 32) (v154 : IVec S16 32) (k0_hw27 : k0_chk27 v3 v154), ∀ a x, ((![v3, v154] : Fin 2 → IVec S16 32) a x).toNat < S16x24.size a := fun v3 v154 k0_hw27 => k0_hw27

def k0_chk28 (v3 : IVec S16 32) (v162 : IVec S16 32) : Prop :=
  (∀ a x, ((![v3, v162] : Fin 2 → IVec S16 32) a x).toNat < S16x24.size a)
theorem k0_idx28_inb : ∀ (v3 : IVec S16 32) (v162 : IVec S16 32) (k0_hw28 : k0_chk28 v3 v162), ∀ a x, ((![v3, v162] : Fin 2 → IVec S16 32) a x).toNat < S16x24.size a := fun v3 v162 k0_hw28 => k0_hw28

def k0_chk29 (v3 : IVec S16 32) (v166 : IVec S16 32) : Prop :=
  (∀ a x, ((![v3, v166] : Fin 2 → IVec S16 32) a x).toNat < S16x24.size a)
theorem k0_idx29_inb : ∀ (v3 : IVec S16 32) (v166 : IVec S16 32) (k0_hw29 : k0_chk29 v3 v166), ∀ a x, ((![v3, v166] : Fin 2 → IVec S16 32) a x).toNat < S16x24.size a := fun v3 v166 k0_hw29 => k0_hw29

def k0_chk30 (v3 : IVec S16 32) (v170 : IVec S16 32) : Prop :=
  (∀ a x, ((![v3, v170] : Fin 2 → IVec S16 32) a x).toNat < S16x24.size a)
theorem k0_idx30_inb : ∀ (v3 : IVec S16 32) (v170 : IVec S16 32) (k0_hw30 : k0_chk30 v3 v170), ∀ a x, ((![v3, v170] : Fin 2 → IVec S16 32) a x).toNat < S16x24.size a := fun v3 v170 k0_hw30 => k0_hw30

def k0_chk31 (v3 : IVec S16 32) (v178 : IVec S16 32) : Prop :=
  (∀ a x, ((![v3, v178] : Fin 2 → IVec S16 32) a x).toNat < S16x24.size a)
theorem k0_idx31_inb : ∀ (v3 : IVec S16 32) (v178 : IVec S16 32) (k0_hw31 : k0_chk31 v3 v178), ∀ a x, ((![v3, v178] : Fin 2 → IVec S16 32) a x).toNat < S16x24.size a := fun v3 v178 k0_hw31 => k0_hw31

def k0_chk32 (v3 : IVec S16 32) (v182 : IVec S16 32) : Prop :=
  (∀ a x, ((![v3, v182] : Fin 2 → IVec S16 32) a x).toNat < S16x24.size a)
theorem k0_idx32_inb : ∀ (v3 : IVec S16 32) (v182 : IVec S16 32) (k0_hw32 : k0_chk32 v3 v182), ∀ a x, ((![v3, v182] : Fin 2 → IVec S16 32) a x).toNat < S16x24.size a := fun v3 v182 k0_hw32 => k0_hw32

def k0_chk33 (v3 : IVec S16 32) (v186 : IVec S16 32) : Prop :=
  (∀ a x, ((![v3, v186] : Fin 2 → IVec S16 32) a x).toNat < S16x24.size a)
theorem k0_idx33_inb : ∀ (v3 : IVec S16 32) (v186 : IVec S16 32) (k0_hw33 : k0_chk33 v3 v186), ∀ a x, ((![v3, v186] : Fin 2 → IVec S16 32) a x).toNat < S16x24.size a := fun v3 v186 k0_hw33 => k0_hw33

def k0_chk34 (v3 : IVec S16 32) (v194 : IVec S16 32) : Prop :=
  (∀ a x, ((![v3, v194] : Fin 2 → IVec S16 32) a x).toNat < S16x24.size a)
theorem k0_idx34_inb : ∀ (v3 : IVec S16 32) (v194 : IVec S16 32) (k0_hw34 : k0_chk34 v3 v194), ∀ a x, ((![v3, v194] : Fin 2 → IVec S16 32) a x).toNat < S16x24.size a := fun v3 v194 k0_hw34 => k0_hw34

def k0_chk35 (v3 : IVec S16 32) (v198 : IVec S16 32) : Prop :=
  (∀ a x, ((![v3, v198] : Fin 2 → IVec S16 32) a x).toNat < S16x24.size a)
theorem k0_idx35_inb : ∀ (v3 : IVec S16 32) (v198 : IVec S16 32) (k0_hw35 : k0_chk35 v3 v198), ∀ a x, ((![v3, v198] : Fin 2 → IVec S16 32) a x).toNat < S16x24.size a := fun v3 v198 k0_hw35 => k0_hw35

def k0_chk36 (v3 : IVec S16 32) (v202 : IVec S16 32) : Prop :=
  (∀ a x, ((![v3, v202] : Fin 2 → IVec S16 32) a x).toNat < S16x24.size a)
theorem k0_idx36_inb : ∀ (v3 : IVec S16 32) (v202 : IVec S16 32) (k0_hw36 : k0_chk36 v3 v202), ∀ a x, ((![v3, v202] : Fin 2 → IVec S16 32) a x).toNat < S16x24.size a := fun v3 v202 k0_hw36 => k0_hw36

def k0_chk37 (v3 : IVec S16 32) (v210 : IVec S16 32) : Prop :=
  (∀ a x, ((![v3, v210] : Fin 2 → IVec S16 32) a x).toNat < S16x24.size a)
theorem k0_idx37_inb : ∀ (v3 : IVec S16 32) (v210 : IVec S16 32) (k0_hw37 : k0_chk37 v3 v210), ∀ a x, ((![v3, v210] : Fin 2 → IVec S16 32) a x).toNat < S16x24.size a := fun v3 v210 k0_hw37 => k0_hw37

def k0_chk38 (v3 : IVec S16 32) (v214 : IVec S16 32) : Prop :=
  (∀ a x, ((![v3, v214] : Fin 2 → IVec S16 32) a x).toNat < S16x24.size a)
theorem k0_idx38_inb : ∀ (v3 : IVec S16 32) (v214 : IVec S16 32) (k0_hw38 : k0_chk38 v3 v214), ∀ a x, ((![v3, v214] : Fin 2 → IVec S16 32) a x).toNat < S16x24.size a := fun v3 v214 k0_hw38 => k0_hw38

def k0_chk39 (v3 : IVec S16 32) (v218 : IVec S16 32) : Prop :=
  (∀ a x, ((![v3, v218] : Fin 2 → IVec S16 32) a x).toNat < S16x24.size a)
theorem k0_idx39_inb : ∀ (v3 : IVec S16 32) (v218 : IVec S16 32) (k0_hw39 : k0_chk39 v3 v218), ∀ a x, ((![v3, v218] : Fin 2 → IVec S16 32) a x).toNat < S16x24.size a := fun v3 v218 k0_hw39 => k0_hw39

def k0_chk40 (v3 : IVec S16 32) (v226 : IVec S16 32) : Prop :=
  (∀ a x, ((![v3, v226] : Fin 2 → IVec S16 32) a x).toNat < S16x24.size a)
theorem k0_idx40_inb : ∀ (v3 : IVec S16 32) (v226 : IVec S16 32) (k0_hw40 : k0_chk40 v3 v226), ∀ a x, ((![v3, v226] : Fin 2 → IVec S16 32) a x).toNat < S16x24.size a := fun v3 v226 k0_hw40 => k0_hw40

def k0_chk41 (v3 : IVec S16 32) (v230 : IVec S16 32) : Prop :=
  (∀ a x, ((![v3, v230] : Fin 2 → IVec S16 32) a x).toNat < S16x24.size a)
theorem k0_idx41_inb : ∀ (v3 : IVec S16 32) (v230 : IVec S16 32) (k0_hw41 : k0_chk41 v3 v230), ∀ a x, ((![v3, v230] : Fin 2 → IVec S16 32) a x).toNat < S16x24.size a := fun v3 v230 k0_hw41 => k0_hw41

def k0_chk42 (v3 : IVec S16 32) (v234 : IVec S16 32) : Prop :=
  (∀ a x, ((![v3, v234] : Fin 2 → IVec S16 32) a x).toNat < S16x24.size a)
theorem k0_idx42_inb : ∀ (v3 : IVec S16 32) (v234 : IVec S16 32) (k0_hw42 : k0_chk42 v3 v234), ∀ a x, ((![v3, v234] : Fin 2 → IVec S16 32) a x).toNat < S16x24.size a := fun v3 v234 k0_hw42 => k0_hw42

def k0_chk43 (v3 : IVec S16 32) (v242 : IVec S16 32) : Prop :=
  (∀ a x, ((![v3, v242] : Fin 2 → IVec S16 32) a x).toNat < S16x24.size a)
theorem k0_idx43_inb : ∀ (v3 : IVec S16 32) (v242 : IVec S16 32) (k0_hw43 : k0_chk43 v3 v242), ∀ a x, ((![v3, v242] : Fin 2 → IVec S16 32) a x).toNat < S16x24.size a := fun v3 v242 k0_hw43 => k0_hw43

def k0_chk44 (v3 : IVec S16 32) (v246 : IVec S16 32) : Prop :=
  (∀ a x, ((![v3, v246] : Fin 2 → IVec S16 32) a x).toNat < S16x24.size a)
theorem k0_idx44_inb : ∀ (v3 : IVec S16 32) (v246 : IVec S16 32) (k0_hw44 : k0_chk44 v3 v246), ∀ a x, ((![v3, v246] : Fin 2 → IVec S16 32) a x).toNat < S16x24.size a := fun v3 v246 k0_hw44 => k0_hw44

def k0_chk45 (v3 : IVec S16 32) (v250 : IVec S16 32) : Prop :=
  (∀ a x, ((![v3, v250] : Fin 2 → IVec S16 32) a x).toNat < S16x24.size a)
theorem k0_idx45_inb : ∀ (v3 : IVec S16 32) (v250 : IVec S16 32) (k0_hw45 : k0_chk45 v3 v250), ∀ a x, ((![v3, v250] : Fin 2 → IVec S16 32) a x).toNat < S16x24.size a := fun v3 v250 k0_hw45 => k0_hw45
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c16_i32_31 : BitVec 32 := 16#32
  let v48 : BitVec 32 := Scalar.muli v30 c16_i32_31
  let v49 : BitVec 32 := Scalar.addi v2 v48
  let c0_i32_371_r0 : BitVec 32 := 0#32
  ![v49.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c16_i32_31 : BitVec 32 := 16#32
  let v48 : BitVec 32 := Scalar.muli v30 c16_i32_31
  let v49 : BitVec 32 := Scalar.addi v2 v48
  let c0_i32_371_r1 : BitVec 32 := 0#32
  ![v49.toNat, 0]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c1_i32_184 : BitVec 32 := 1#32
  let v251 : BitVec 32 := Scalar.addi v30 c1_i32_184
  let c16_i32_185 : BitVec 32 := 16#32
  let v252 : BitVec 32 := Scalar.muli v251 c16_i32_185
  let v253 : BitVec 32 := Scalar.addi v2 v252
  let c0_i32_189 : BitVec 32 := 0#32
  ![v253.toNat, 0]
def k0_cond1 (k0_t1 : Fin k0_t1_loop.trips) : BitVec 1 :=
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c2_i32_193 : BitVec 32 := 2#32
  let v260 : BitVec 32 := Scalar.addi v30 c2_i32_193
  let c32_i32_194 : BitVec 32 := 32#32
  let v261 : BitVec 1 := Scalar.cmpi .slt v260 c32_i32_194
  let v262 : BitVec 32 := Scalar.extui v261
  let c0_i32_195 : BitVec 32 := 0#32
  let v263 : BitVec 1 := Scalar.cmpi .ne v262 c0_i32_195
  v263

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c2_i32_371 : BitVec 32 := 2#32
  let v468 : BitVec 32 := Scalar.addi v30 c2_i32_371
  let c16_i32_372 : BitVec 32 := 16#32
  let v469 : BitVec 32 := Scalar.muli v468 c16_i32_372
  let v470 : BitVec 32 := Scalar.addi v2 v469
  let c0_i32_376 : BitVec 32 := 0#32
  ![v470.toNat, 0]
@[reducible] def k0_t3_loop : Scf.Loop 32 :=
  let c0_i32_271 : BitVec 32 := 0#32
  let c128_i32_272 : BitVec 32 := 128#32
  let v339 : BitVec 32 := Scalar.addi c0_i32_271 c128_i32_272
  let c1_i32_273 : BitVec 32 := 1#32
  ⟨c0_i32_271, v339, c1_i32_273⟩

def k0_chk46 (v3 : IVec S16 32) (v472 : IVec S16 32) : Prop :=
  (∀ a x, ((![v3, v472] : Fin 2 → IVec S16 32) a x).toNat < S16x2048.size a)
theorem k0_idx46_inb : ∀ (v3 : IVec S16 32) (v472 : IVec S16 32) (k0_hw46 : k0_chk46 v3 v472), ∀ a x, ((![v3, v472] : Fin 2 → IVec S16 32) a x).toNat < S16x2048.size a := fun v3 v472 k0_hw46 => k0_hw46

def k0_chk47 (v3 : IVec S16 32) (v476 : IVec S16 32) : Prop :=
  (∀ a x, ((![v3, v476] : Fin 2 → IVec S16 32) a x).toNat < S16x2048.size a)
theorem k0_idx47_inb : ∀ (v3 : IVec S16 32) (v476 : IVec S16 32) (k0_hw47 : k0_chk47 v3 v476), ∀ a x, ((![v3, v476] : Fin 2 → IVec S16 32) a x).toNat < S16x2048.size a := fun v3 v476 k0_hw47 => k0_hw47

def k0_chk48 (v3 : IVec S16 32) (v480 : IVec S16 32) : Prop :=
  (∀ a x, ((![v3, v480] : Fin 2 → IVec S16 32) a x).toNat < S16x2048.size a)
theorem k0_idx48_inb : ∀ (v3 : IVec S16 32) (v480 : IVec S16 32) (k0_hw48 : k0_chk48 v3 v480), ∀ a x, ((![v3, v480] : Fin 2 → IVec S16 32) a x).toNat < S16x2048.size a := fun v3 v480 k0_hw48 => k0_hw48

def k0_chk49 (v3 : IVec S16 32) (v484 : IVec S16 32) : Prop :=
  (∀ a x, ((![v3, v484] : Fin 2 → IVec S16 32) a x).toNat < S16x2048.size a)
theorem k0_idx49_inb : ∀ (v3 : IVec S16 32) (v484 : IVec S16 32) (k0_hw49 : k0_chk49 v3 v484), ∀ a x, ((![v3, v484] : Fin 2 → IVec S16 32) a x).toNat < S16x2048.size a := fun v3 v484 k0_hw49 => k0_hw49

def k0_chk50 (v3 : IVec S16 32) (v488 : IVec S16 32) : Prop :=
  (∀ a x, ((![v3, v488] : Fin 2 → IVec S16 32) a x).toNat < S16x2048.size a)
theorem k0_idx50_inb : ∀ (v3 : IVec S16 32) (v488 : IVec S16 32) (k0_hw50 : k0_chk50 v3 v488), ∀ a x, ((![v3, v488] : Fin 2 → IVec S16 32) a x).toNat < S16x2048.size a := fun v3 v488 k0_hw50 => k0_hw50

def k0_chk51 (v3 : IVec S16 32) (v492 : IVec S16 32) : Prop :=
  (∀ a x, ((![v3, v492] : Fin 2 → IVec S16 32) a x).toNat < S16x2048.size a)
theorem k0_idx51_inb : ∀ (v3 : IVec S16 32) (v492 : IVec S16 32) (k0_hw51 : k0_chk51 v3 v492), ∀ a x, ((![v3, v492] : Fin 2 → IVec S16 32) a x).toNat < S16x2048.size a := fun v3 v492 k0_hw51 => k0_hw51

def k0_chk52 (v3 : IVec S16 32) (v496 : IVec S16 32) : Prop :=
  (∀ a x, ((![v3, v496] : Fin 2 → IVec S16 32) a x).toNat < S16x2048.size a)
theorem k0_idx52_inb : ∀ (v3 : IVec S16 32) (v496 : IVec S16 32) (k0_hw52 : k0_chk52 v3 v496), ∀ a x, ((![v3, v496] : Fin 2 → IVec S16 32) a x).toNat < S16x2048.size a := fun v3 v496 k0_hw52 => k0_hw52

def k0_chk53 (v3 : IVec S16 32) (v500 : IVec S16 32) : Prop :=
  (∀ a x, ((![v3, v500] : Fin 2 → IVec S16 32) a x).toNat < S16x2048.size a)
theorem k0_idx53_inb : ∀ (v3 : IVec S16 32) (v500 : IVec S16 32) (k0_hw53 : k0_chk53 v3 v500), ∀ a x, ((![v3, v500] : Fin 2 → IVec S16 32) a x).toNat < S16x2048.size a := fun v3 v500 k0_hw53 => k0_hw53

def k0_chk54 (v3 : IVec S16 32) (v504 : IVec S16 32) : Prop :=
  (∀ a x, ((![v3, v504] : Fin 2 → IVec S16 32) a x).toNat < S16x2048.size a)
theorem k0_idx54_inb : ∀ (v3 : IVec S16 32) (v504 : IVec S16 32) (k0_hw54 : k0_chk54 v3 v504), ∀ a x, ((![v3, v504] : Fin 2 → IVec S16 32) a x).toNat < S16x2048.size a := fun v3 v504 k0_hw54 => k0_hw54

def k0_chk55 (v3 : IVec S16 32) (v508 : IVec S16 32) : Prop :=
  (∀ a x, ((![v3, v508] : Fin 2 → IVec S16 32) a x).toNat < S16x2048.size a)
theorem k0_idx55_inb : ∀ (v3 : IVec S16 32) (v508 : IVec S16 32) (k0_hw55 : k0_chk55 v3 v508), ∀ a x, ((![v3, v508] : Fin 2 → IVec S16 32) a x).toNat < S16x2048.size a := fun v3 v508 k0_hw55 => k0_hw55

def k0_chk56 (v3 : IVec S16 32) (v512 : IVec S16 32) : Prop :=
  (∀ a x, ((![v3, v512] : Fin 2 → IVec S16 32) a x).toNat < S16x2048.size a)
theorem k0_idx56_inb : ∀ (v3 : IVec S16 32) (v512 : IVec S16 32) (k0_hw56 : k0_chk56 v3 v512), ∀ a x, ((![v3, v512] : Fin 2 → IVec S16 32) a x).toNat < S16x2048.size a := fun v3 v512 k0_hw56 => k0_hw56

def k0_chk57 (v3 : IVec S16 32) (v516 : IVec S16 32) : Prop :=
  (∀ a x, ((![v3, v516] : Fin 2 → IVec S16 32) a x).toNat < S16x2048.size a)
theorem k0_idx57_inb : ∀ (v3 : IVec S16 32) (v516 : IVec S16 32) (k0_hw57 : k0_chk57 v3 v516), ∀ a x, ((![v3, v516] : Fin 2 → IVec S16 32) a x).toNat < S16x2048.size a := fun v3 v516 k0_hw57 => k0_hw57

def k0_chk58 (v3 : IVec S16 32) (v520 : IVec S16 32) : Prop :=
  (∀ a x, ((![v3, v520] : Fin 2 → IVec S16 32) a x).toNat < S16x2048.size a)
theorem k0_idx58_inb : ∀ (v3 : IVec S16 32) (v520 : IVec S16 32) (k0_hw58 : k0_chk58 v3 v520), ∀ a x, ((![v3, v520] : Fin 2 → IVec S16 32) a x).toNat < S16x2048.size a := fun v3 v520 k0_hw58 => k0_hw58

def k0_chk59 (v3 : IVec S16 32) (v524 : IVec S16 32) : Prop :=
  (∀ a x, ((![v3, v524] : Fin 2 → IVec S16 32) a x).toNat < S16x2048.size a)
theorem k0_idx59_inb : ∀ (v3 : IVec S16 32) (v524 : IVec S16 32) (k0_hw59 : k0_chk59 v3 v524), ∀ a x, ((![v3, v524] : Fin 2 → IVec S16 32) a x).toNat < S16x2048.size a := fun v3 v524 k0_hw59 => k0_hw59

def k0_chk60 (v3 : IVec S16 32) (v528 : IVec S16 32) : Prop :=
  (∀ a x, ((![v3, v528] : Fin 2 → IVec S16 32) a x).toNat < S16x2048.size a)
theorem k0_idx60_inb : ∀ (v3 : IVec S16 32) (v528 : IVec S16 32) (k0_hw60 : k0_chk60 v3 v528), ∀ a x, ((![v3, v528] : Fin 2 → IVec S16 32) a x).toNat < S16x2048.size a := fun v3 v528 k0_hw60 => k0_hw60

def k0_chk61 (v3 : IVec S16 32) (v532 : IVec S16 32) : Prop :=
  (∀ a x, ((![v3, v532] : Fin 2 → IVec S16 32) a x).toNat < S16x2048.size a)
theorem k0_idx61_inb : ∀ (v3 : IVec S16 32) (v532 : IVec S16 32) (k0_hw61 : k0_chk61 v3 v532), ∀ a x, ((![v3, v532] : Fin 2 → IVec S16 32) a x).toNat < S16x2048.size a := fun v3 v532 k0_hw61 => k0_hw61

def k0_chk62 (v3 : IVec S16 32) (v633 : IVec S16 32) : Prop :=
  (∀ a x, ((![v633, v3] : Fin 2 → IVec S16 32) a x).toNat < S40x16.size a)
theorem k0_idx62_inb : ∀ (v3 : IVec S16 32) (v633 : IVec S16 32) (k0_hw62 : k0_chk62 v3 v633), ∀ a x, ((![v633, v3] : Fin 2 → IVec S16 32) a x).toNat < S40x16.size a := fun v3 v633 k0_hw62 => k0_hw62

def k0_chk63 (v3 : IVec S16 32) (v635 : IVec S16 32) : Prop :=
  (∀ a x, ((![v635, v3] : Fin 2 → IVec S16 32) a x).toNat < S40x16.size a)
theorem k0_idx63_inb : ∀ (v3 : IVec S16 32) (v635 : IVec S16 32) (k0_hw63 : k0_chk63 v3 v635), ∀ a x, ((![v635, v3] : Fin 2 → IVec S16 32) a x).toNat < S40x16.size a := fun v3 v635 k0_hw63 => k0_hw63

def k0_chk64 (v3 : IVec S16 32) (v637 : IVec S16 32) : Prop :=
  (∀ a x, ((![v637, v3] : Fin 2 → IVec S16 32) a x).toNat < S40x16.size a)
theorem k0_idx64_inb : ∀ (v3 : IVec S16 32) (v637 : IVec S16 32) (k0_hw64 : k0_chk64 v3 v637), ∀ a x, ((![v637, v3] : Fin 2 → IVec S16 32) a x).toNat < S40x16.size a := fun v3 v637 k0_hw64 => k0_hw64

def k0_chk65 (v3 : IVec S16 32) (v639 : IVec S16 32) : Prop :=
  (∀ a x, ((![v639, v3] : Fin 2 → IVec S16 32) a x).toNat < S40x16.size a)
theorem k0_idx65_inb : ∀ (v3 : IVec S16 32) (v639 : IVec S16 32) (k0_hw65 : k0_chk65 v3 v639), ∀ a x, ((![v639, v3] : Fin 2 → IVec S16 32) a x).toNat < S40x16.size a := fun v3 v639 k0_hw65 => k0_hw65

def k0_chk66 (v3 : IVec S16 32) (v640 : IVec S16 32) : Prop :=
  (∀ a x, ((![v3, v640] : Fin 2 → IVec S16 32) a x).toNat < S16x128.size a)
theorem k0_idx66_inb : ∀ (v3 : IVec S16 32) (v640 : IVec S16 32) (k0_hw66 : k0_chk66 v3 v640), ∀ a x, ((![v3, v640] : Fin 2 → IVec S16 32) a x).toNat < S16x128.size a := fun v3 v640 k0_hw66 => k0_hw66

def k0_chk67 (v3 : IVec S16 32) (v347 : IVec S16 32) : Prop :=
  (∀ a x, ((![v3, v347] : Fin 2 → IVec S16 32) a x).toNat < S16x24.size a)
theorem k0_idx67_inb : ∀ (v3 : IVec S16 32) (v347 : IVec S16 32) (k0_hw67 : k0_chk67 v3 v347), ∀ a x, ((![v3, v347] : Fin 2 → IVec S16 32) a x).toNat < S16x24.size a := fun v3 v347 k0_hw67 => k0_hw67

def k0_chk68 (v3 : IVec S16 32) (v351 : IVec S16 32) : Prop :=
  (∀ a x, ((![v3, v351] : Fin 2 → IVec S16 32) a x).toNat < S16x24.size a)
theorem k0_idx68_inb : ∀ (v3 : IVec S16 32) (v351 : IVec S16 32) (k0_hw68 : k0_chk68 v3 v351), ∀ a x, ((![v3, v351] : Fin 2 → IVec S16 32) a x).toNat < S16x24.size a := fun v3 v351 k0_hw68 => k0_hw68

def k0_chk69 (v3 : IVec S16 32) (v355 : IVec S16 32) : Prop :=
  (∀ a x, ((![v3, v355] : Fin 2 → IVec S16 32) a x).toNat < S16x24.size a)
theorem k0_idx69_inb : ∀ (v3 : IVec S16 32) (v355 : IVec S16 32) (k0_hw69 : k0_chk69 v3 v355), ∀ a x, ((![v3, v355] : Fin 2 → IVec S16 32) a x).toNat < S16x24.size a := fun v3 v355 k0_hw69 => k0_hw69

def k0_chk70 (v3 : IVec S16 32) (v363 : IVec S16 32) : Prop :=
  (∀ a x, ((![v3, v363] : Fin 2 → IVec S16 32) a x).toNat < S16x24.size a)
theorem k0_idx70_inb : ∀ (v3 : IVec S16 32) (v363 : IVec S16 32) (k0_hw70 : k0_chk70 v3 v363), ∀ a x, ((![v3, v363] : Fin 2 → IVec S16 32) a x).toNat < S16x24.size a := fun v3 v363 k0_hw70 => k0_hw70

def k0_chk71 (v3 : IVec S16 32) (v367 : IVec S16 32) : Prop :=
  (∀ a x, ((![v3, v367] : Fin 2 → IVec S16 32) a x).toNat < S16x24.size a)
theorem k0_idx71_inb : ∀ (v3 : IVec S16 32) (v367 : IVec S16 32) (k0_hw71 : k0_chk71 v3 v367), ∀ a x, ((![v3, v367] : Fin 2 → IVec S16 32) a x).toNat < S16x24.size a := fun v3 v367 k0_hw71 => k0_hw71

def k0_chk72 (v3 : IVec S16 32) (v371 : IVec S16 32) : Prop :=
  (∀ a x, ((![v3, v371] : Fin 2 → IVec S16 32) a x).toNat < S16x24.size a)
theorem k0_idx72_inb : ∀ (v3 : IVec S16 32) (v371 : IVec S16 32) (k0_hw72 : k0_chk72 v3 v371), ∀ a x, ((![v3, v371] : Fin 2 → IVec S16 32) a x).toNat < S16x24.size a := fun v3 v371 k0_hw72 => k0_hw72

def k0_chk73 (v3 : IVec S16 32) (v379 : IVec S16 32) : Prop :=
  (∀ a x, ((![v3, v379] : Fin 2 → IVec S16 32) a x).toNat < S16x24.size a)
theorem k0_idx73_inb : ∀ (v3 : IVec S16 32) (v379 : IVec S16 32) (k0_hw73 : k0_chk73 v3 v379), ∀ a x, ((![v3, v379] : Fin 2 → IVec S16 32) a x).toNat < S16x24.size a := fun v3 v379 k0_hw73 => k0_hw73

def k0_chk74 (v3 : IVec S16 32) (v383 : IVec S16 32) : Prop :=
  (∀ a x, ((![v3, v383] : Fin 2 → IVec S16 32) a x).toNat < S16x24.size a)
theorem k0_idx74_inb : ∀ (v3 : IVec S16 32) (v383 : IVec S16 32) (k0_hw74 : k0_chk74 v3 v383), ∀ a x, ((![v3, v383] : Fin 2 → IVec S16 32) a x).toNat < S16x24.size a := fun v3 v383 k0_hw74 => k0_hw74

def k0_chk75 (v3 : IVec S16 32) (v387 : IVec S16 32) : Prop :=
  (∀ a x, ((![v3, v387] : Fin 2 → IVec S16 32) a x).toNat < S16x24.size a)
theorem k0_idx75_inb : ∀ (v3 : IVec S16 32) (v387 : IVec S16 32) (k0_hw75 : k0_chk75 v3 v387), ∀ a x, ((![v3, v387] : Fin 2 → IVec S16 32) a x).toNat < S16x24.size a := fun v3 v387 k0_hw75 => k0_hw75

def k0_chk76 (v3 : IVec S16 32) (v395 : IVec S16 32) : Prop :=
  (∀ a x, ((![v3, v395] : Fin 2 → IVec S16 32) a x).toNat < S16x24.size a)
theorem k0_idx76_inb : ∀ (v3 : IVec S16 32) (v395 : IVec S16 32) (k0_hw76 : k0_chk76 v3 v395), ∀ a x, ((![v3, v395] : Fin 2 → IVec S16 32) a x).toNat < S16x24.size a := fun v3 v395 k0_hw76 => k0_hw76

def k0_chk77 (v3 : IVec S16 32) (v399 : IVec S16 32) : Prop :=
  (∀ a x, ((![v3, v399] : Fin 2 → IVec S16 32) a x).toNat < S16x24.size a)
theorem k0_idx77_inb : ∀ (v3 : IVec S16 32) (v399 : IVec S16 32) (k0_hw77 : k0_chk77 v3 v399), ∀ a x, ((![v3, v399] : Fin 2 → IVec S16 32) a x).toNat < S16x24.size a := fun v3 v399 k0_hw77 => k0_hw77

def k0_chk78 (v3 : IVec S16 32) (v403 : IVec S16 32) : Prop :=
  (∀ a x, ((![v3, v403] : Fin 2 → IVec S16 32) a x).toNat < S16x24.size a)
theorem k0_idx78_inb : ∀ (v3 : IVec S16 32) (v403 : IVec S16 32) (k0_hw78 : k0_chk78 v3 v403), ∀ a x, ((![v3, v403] : Fin 2 → IVec S16 32) a x).toNat < S16x24.size a := fun v3 v403 k0_hw78 => k0_hw78

def k0_chk79 (v3 : IVec S16 32) (v411 : IVec S16 32) : Prop :=
  (∀ a x, ((![v3, v411] : Fin 2 → IVec S16 32) a x).toNat < S16x24.size a)
theorem k0_idx79_inb : ∀ (v3 : IVec S16 32) (v411 : IVec S16 32) (k0_hw79 : k0_chk79 v3 v411), ∀ a x, ((![v3, v411] : Fin 2 → IVec S16 32) a x).toNat < S16x24.size a := fun v3 v411 k0_hw79 => k0_hw79

def k0_chk80 (v3 : IVec S16 32) (v415 : IVec S16 32) : Prop :=
  (∀ a x, ((![v3, v415] : Fin 2 → IVec S16 32) a x).toNat < S16x24.size a)
theorem k0_idx80_inb : ∀ (v3 : IVec S16 32) (v415 : IVec S16 32) (k0_hw80 : k0_chk80 v3 v415), ∀ a x, ((![v3, v415] : Fin 2 → IVec S16 32) a x).toNat < S16x24.size a := fun v3 v415 k0_hw80 => k0_hw80

def k0_chk81 (v3 : IVec S16 32) (v419 : IVec S16 32) : Prop :=
  (∀ a x, ((![v3, v419] : Fin 2 → IVec S16 32) a x).toNat < S16x24.size a)
theorem k0_idx81_inb : ∀ (v3 : IVec S16 32) (v419 : IVec S16 32) (k0_hw81 : k0_chk81 v3 v419), ∀ a x, ((![v3, v419] : Fin 2 → IVec S16 32) a x).toNat < S16x24.size a := fun v3 v419 k0_hw81 => k0_hw81

def k0_chk82 (v3 : IVec S16 32) (v427 : IVec S16 32) : Prop :=
  (∀ a x, ((![v3, v427] : Fin 2 → IVec S16 32) a x).toNat < S16x24.size a)
theorem k0_idx82_inb : ∀ (v3 : IVec S16 32) (v427 : IVec S16 32) (k0_hw82 : k0_chk82 v3 v427), ∀ a x, ((![v3, v427] : Fin 2 → IVec S16 32) a x).toNat < S16x24.size a := fun v3 v427 k0_hw82 => k0_hw82

def k0_chk83 (v3 : IVec S16 32) (v431 : IVec S16 32) : Prop :=
  (∀ a x, ((![v3, v431] : Fin 2 → IVec S16 32) a x).toNat < S16x24.size a)
theorem k0_idx83_inb : ∀ (v3 : IVec S16 32) (v431 : IVec S16 32) (k0_hw83 : k0_chk83 v3 v431), ∀ a x, ((![v3, v431] : Fin 2 → IVec S16 32) a x).toNat < S16x24.size a := fun v3 v431 k0_hw83 => k0_hw83

def k0_chk84 (v3 : IVec S16 32) (v435 : IVec S16 32) : Prop :=
  (∀ a x, ((![v3, v435] : Fin 2 → IVec S16 32) a x).toNat < S16x24.size a)
theorem k0_idx84_inb : ∀ (v3 : IVec S16 32) (v435 : IVec S16 32) (k0_hw84 : k0_chk84 v3 v435), ∀ a x, ((![v3, v435] : Fin 2 → IVec S16 32) a x).toNat < S16x24.size a := fun v3 v435 k0_hw84 => k0_hw84

def k0_chk85 (v3 : IVec S16 32) (v443 : IVec S16 32) : Prop :=
  (∀ a x, ((![v3, v443] : Fin 2 → IVec S16 32) a x).toNat < S16x24.size a)
theorem k0_idx85_inb : ∀ (v3 : IVec S16 32) (v443 : IVec S16 32) (k0_hw85 : k0_chk85 v3 v443), ∀ a x, ((![v3, v443] : Fin 2 → IVec S16 32) a x).toNat < S16x24.size a := fun v3 v443 k0_hw85 => k0_hw85

def k0_chk86 (v3 : IVec S16 32) (v447 : IVec S16 32) : Prop :=
  (∀ a x, ((![v3, v447] : Fin 2 → IVec S16 32) a x).toNat < S16x24.size a)
theorem k0_idx86_inb : ∀ (v3 : IVec S16 32) (v447 : IVec S16 32) (k0_hw86 : k0_chk86 v3 v447), ∀ a x, ((![v3, v447] : Fin 2 → IVec S16 32) a x).toNat < S16x24.size a := fun v3 v447 k0_hw86 => k0_hw86

def k0_chk87 (v3 : IVec S16 32) (v451 : IVec S16 32) : Prop :=
  (∀ a x, ((![v3, v451] : Fin 2 → IVec S16 32) a x).toNat < S16x24.size a)
theorem k0_idx87_inb : ∀ (v3 : IVec S16 32) (v451 : IVec S16 32) (k0_hw87 : k0_chk87 v3 v451), ∀ a x, ((![v3, v451] : Fin 2 → IVec S16 32) a x).toNat < S16x24.size a := fun v3 v451 k0_hw87 => k0_hw87

def k0_chk88 (v3 : IVec S16 32) (v459 : IVec S16 32) : Prop :=
  (∀ a x, ((![v3, v459] : Fin 2 → IVec S16 32) a x).toNat < S16x24.size a)
theorem k0_idx88_inb : ∀ (v3 : IVec S16 32) (v459 : IVec S16 32) (k0_hw88 : k0_chk88 v3 v459), ∀ a x, ((![v3, v459] : Fin 2 → IVec S16 32) a x).toNat < S16x24.size a := fun v3 v459 k0_hw88 => k0_hw88

def k0_chk89 (v3 : IVec S16 32) (v463 : IVec S16 32) : Prop :=
  (∀ a x, ((![v3, v463] : Fin 2 → IVec S16 32) a x).toNat < S16x24.size a)
theorem k0_idx89_inb : ∀ (v3 : IVec S16 32) (v463 : IVec S16 32) (k0_hw89 : k0_chk89 v3 v463), ∀ a x, ((![v3, v463] : Fin 2 → IVec S16 32) a x).toNat < S16x24.size a := fun v3 v463 k0_hw89 => k0_hw89

def k0_chk90 (v3 : IVec S16 32) (v467 : IVec S16 32) : Prop :=
  (∀ a x, ((![v3, v467] : Fin 2 → IVec S16 32) a x).toNat < S16x24.size a)
theorem k0_idx90_inb : ∀ (v3 : IVec S16 32) (v467 : IVec S16 32) (k0_hw90 : k0_chk90 v3 v467), ∀ a x, ((![v3, v467] : Fin 2 → IVec S16 32) a x).toNat < S16x24.size a := fun v3 v467 k0_hw90 => k0_hw90
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c1_i32_196 : BitVec 32 := 1#32
  let v264 : BitVec 32 := Scalar.addi v30 c1_i32_196
  let c16_i32_197 : BitVec 32 := 16#32
  let v265 : BitVec 32 := Scalar.muli v264 c16_i32_197
  let v266 : BitVec 32 := Scalar.addi v2 v265
  let c0_i32_371_r2 : BitVec 32 := 0#32
  ![v266.toNat, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_13 : BitVec 32 := 2#32
  let c0_i32_10 : BitVec 32 := 0#32
  let c1_i32_11 : BitVec 32 := 1#32
  let arg11 : BitVec 32 := Scf.iv c0_i32_10 c1_i32_11 k0_t1
  let v30 : BitVec 32 := Scalar.muli c2_i32_13 arg11
  let c1_i32_196 : BitVec 32 := 1#32
  let v264 : BitVec 32 := Scalar.addi v30 c1_i32_196
  let c16_i32_197 : BitVec 32 := 16#32
  let v265 : BitVec 32 := Scalar.muli v264 c16_i32_197
  let v266 : BitVec 32 := Scalar.addi v2 v265
  let c0_i32_371_r3 : BitVec 32 := 0#32
  ![v266.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x8x2 : Shape := ⟨3, ![16384, 8, 2]⟩
abbrev S16384x128x8x2 : Shape := ⟨4, ![16384, 128, 8, 2]⟩
abbrev S16384x128x1x2 : Shape := ⟨4, ![16384, 128, 1, 2]⟩
abbrev S16384x128x2 : Shape := ⟨3, ![16384, 128, 2]⟩
abbrev S_ : Shape := ⟨0, ![]⟩
abbrev S16384x128 : Shape := ⟨2, ![16384, 128]⟩
abbrev S16384x128x1 : Shape := ⟨3, ![16384, 128, 1]⟩
abbrev S8 : Shape := ⟨1, ![8]⟩
abbrev S16384x1x128 : Shape := ⟨3, ![16384, 1, 128]⟩
abbrev S1x8x1 : Shape := ⟨3, ![1, 8, 1]⟩
abbrev S16384x8x128 : Shape := ⟨3, ![16384, 8, 128]⟩
abbrev S16384x8 : Shape := ⟨2, ![16384, 8]⟩
abbrev S16384x8x1 : Shape := ⟨3, ![16384, 8, 1]⟩
abbrev S16384x8x3 : Shape := ⟨3, ![16384, 8, 3]⟩

abbrev nBuf : Space → Nat
  | .hbm => 164
  | .vmem => 0
  | .smem => 0
  | _ => 0

abbrev hbmTy0_0 (i : Nat) : BufTy := match i % 128 with
  | 0 => ⟨S16384x8x2, .f32⟩
  | 1 => ⟨S16384x128x8x2, .f32⟩
  | 2 => ⟨S16384x128x1x2, .f32⟩
  | 3 => ⟨S16384x128x2, .f32⟩
  | 4 => ⟨S16384x128x1x2, .f32⟩
  | 5 => ⟨S16384x128x2, .f32⟩
  | 6 => ⟨S16384x128x2, .f32⟩
  | 7 => ⟨S16384x128x1x2, .f32⟩
  | 8 => ⟨S16384x128x2, .f32⟩
  | 9 => ⟨S16384x128x2, .f32⟩
  | 10 => ⟨S_, .f32⟩
  | 11 => ⟨S16384x128, .f32⟩
  | 12 => ⟨S16384x128, .f32⟩
  | 13 => ⟨S16384x128x2, .f32⟩
  | 14 => ⟨S_, .f32⟩
  | 15 => ⟨S16384x128, .f32⟩
  | 16 => ⟨S16384x128, .f32⟩
  | 17 => ⟨S16384x128x1, .f32⟩
  | 18 => ⟨S16384x128, .f32⟩
  | 19 => ⟨S16384x128x1, .f32⟩
  | 20 => ⟨S16384x128, .f32⟩
  | 21 => ⟨S16384x128, .f32⟩
  | 22 => ⟨S16384x128, .f32⟩
  | 23 => ⟨S16384x128, .i1⟩
  | 24 => ⟨S16384x128, .f32⟩
  | 25 => ⟨S16384x128, .f32⟩
  | 26 => ⟨S16384x128, .f32⟩
  | 27 => ⟨S_, .f32⟩
  | 28 => ⟨S16384x128, .f32⟩
  | 29 => ⟨S16384x128, .i1⟩
  | 30 => ⟨S_, .f32⟩
  | 31 => ⟨S16384x128, .f32⟩
  | 32 => ⟨S16384x128, .f32⟩
  | 33 => ⟨S16384x128, .f32⟩
  | 34 => ⟨S16384x128, .f32⟩
  | 35 => ⟨S16384x128, .f32⟩
  | 36 => ⟨S16384x128, .f32⟩
  | 37 => ⟨S16384x128, .f32⟩
  | 38 => ⟨S_, .f32⟩
  | 39 => ⟨S16384x128, .f32⟩
  | 40 => ⟨S16384x128, .f32⟩
  | 41 => ⟨S_, .f32⟩
  | 42 => ⟨S16384x128, .f32⟩
  | 43 => ⟨S16384x128, .f32⟩
  | 44 => ⟨S16384x128, .f32⟩
  | 45 => ⟨S_, .f32⟩
  | 46 => ⟨S16384x128, .f32⟩
  | 47 => ⟨S16384x128, .f32⟩
  | 48 => ⟨S16384x128, .f32⟩
  | 49 => ⟨S_, .f32⟩
  | 50 => ⟨S16384x128, .f32⟩
  | 51 => ⟨S16384x128, .f32⟩
  | 52 => ⟨S16384x128, .f32⟩
  | 53 => ⟨S_, .f32⟩
  | 54 => ⟨S16384x128, .f32⟩
  | 55 => ⟨S16384x128, .f32⟩
  | 56 => ⟨S16384x128, .f32⟩
  | 57 => ⟨S_, .f32⟩
  | 58 => ⟨S16384x128, .f32⟩
  | 59 => ⟨S16384x128, .f32⟩
  | 60 => ⟨S16384x128, .f32⟩
  | 61 => ⟨S_, .f32⟩
  | 62 => ⟨S16384x128, .f32⟩
  | 63 => ⟨S16384x128, .f32⟩
  | 64 => ⟨S16384x128, .f32⟩
  | 65 => ⟨S_, .f32⟩
  | 66 => ⟨S16384x128, .f32⟩
  | 67 => ⟨S16384x128, .f32⟩
  | 68 => ⟨S16384x128, .f32⟩
  | 69 => ⟨S_, .f32⟩
  | 70 => ⟨S16384x128, .f32⟩
  | 71 => ⟨S16384x128, .f32⟩
  | 72 => ⟨S16384x128, .f32⟩
  | 73 => ⟨S_, .f32⟩
  | 74 => ⟨S16384x128, .f32⟩
  | 75 => ⟨S16384x128, .f32⟩
  | 76 => ⟨S16384x128, .f32⟩
  | 77 => ⟨S_, .f32⟩
  | 78 => ⟨S16384x128, .f32⟩
  | 79 => ⟨S16384x128, .f32⟩
  | 80 => ⟨S16384x128, .f32⟩
  | 81 => ⟨S_, .f32⟩
  | 82 => ⟨S16384x128, .f32⟩
  | 83 => ⟨S16384x128, .i1⟩
  | 84 => ⟨S_, .f32⟩
  | 85 => ⟨S16384x128, .f32⟩
  | 86 => ⟨S16384x128, .f32⟩
  | 87 => ⟨S16384x128, .f32⟩
  | 88 => ⟨S_, .f32⟩
  | 89 => ⟨S16384x128, .f32⟩
  | 90 => ⟨S16384x128, .i1⟩
  | 91 => ⟨S16384x128, .f32⟩
  | 92 => ⟨S16384x128, .f32⟩
  | 93 => ⟨S_, .f32⟩
  | 94 => ⟨S_, .f32⟩
  | 95 => ⟨S16384x128, .f32⟩
  | 96 => ⟨S16384x128, .f32⟩
  | 97 => ⟨S_, .f32⟩
  | 98 => ⟨S16384x128, .f32⟩
  | 99 => ⟨S16384x128, .i1⟩
  | 100 => ⟨S_, .f32⟩
  | 101 => ⟨S16384x128, .f32⟩
  | 102 => ⟨S16384x128, .i1⟩
  | 103 => ⟨S_, .f32⟩
  | 104 => ⟨S_, .i1⟩
  | 105 => ⟨S16384x128, .i1⟩
  | 106 => ⟨S16384x128, .i1⟩
  | 107 => ⟨S16384x128, .i1⟩
  | 108 => ⟨S16384x128, .f32⟩
  | 109 => ⟨S16384x128, .f32⟩
  | 110 => ⟨S16384x128, .f32⟩
  | 111 => ⟨S_, .f32⟩
  | 112 => ⟨S16384x128, .f32⟩
  | 113 => ⟨S16384x128, .f32⟩
  | 114 => ⟨S16384x128, .i32⟩
  | 115 => ⟨S_, .f32⟩
  | 116 => ⟨S16384x128, .f32⟩
  | 117 => ⟨S16384x128, .f32⟩
  | 118 => ⟨S_, .f32⟩
  | 119 => ⟨S16384x128, .f32⟩
  | 120 => ⟨S16384x128, .i1⟩
  | 121 => ⟨S16384x128, .i32⟩
  | 122 => ⟨S16384x128, .i32⟩
  | 123 => ⟨S_, .i32⟩
  | 124 => ⟨S16384x128, .i32⟩
  | 125 => ⟨S16384x128, .i32⟩
  | 126 => ⟨S_, .i32⟩
  | 127 => ⟨S16384x128, .i32⟩
  | _ => ⟨S16384x8x2, .f32⟩

abbrev hbmTy0_1 (i : Nat) : BufTy := match i % 128 with
  | 0 => ⟨S16384x128, .i32⟩
  | 1 => ⟨S16384x128, .i32⟩
  | 2 => ⟨S8, .i32⟩
  | 3 => ⟨S16384x1x128, .i32⟩
  | 4 => ⟨S1x8x1, .i32⟩
  | 5 => ⟨S16384x8x128, .i32⟩
  | 6 => ⟨S16384x8x128, .i32⟩
  | 7 => ⟨S16384x8x128, .i1⟩
  | 8 => ⟨S16384x8x128, .f32⟩
  | 9 => ⟨S_, .f32⟩
  | 10 => ⟨S16384x8, .f32⟩
  | 11 => ⟨S_, .f32⟩
  | 12 => ⟨S16384x8, .f32⟩
  | 13 => ⟨S16384x8, .f32⟩
  | 14 => ⟨S16384x1x128, .f32⟩
  | 15 => ⟨S16384x8x128, .f32⟩
  | 16 => ⟨S16384x8x128, .f32⟩
  | 17 => ⟨S_, .f32⟩
  | 18 => ⟨S16384x8, .f32⟩
  | 19 => ⟨S16384x8, .f32⟩
  | 20 => ⟨S16384x1x128, .f32⟩
  | 21 => ⟨S16384x8x128, .f32⟩
  | 22 => ⟨S16384x8x128, .f32⟩
  | 23 => ⟨S_, .f32⟩
  | 24 => ⟨S16384x8, .f32⟩
  | 25 => ⟨S16384x8, .f32⟩
  | 26 => ⟨S16384x1x128, .f32⟩
  | 27 => ⟨S16384x8x128, .f32⟩
  | 28 => ⟨S16384x8x128, .f32⟩
  | 29 => ⟨S_, .f32⟩
  | 30 => ⟨S16384x8, .f32⟩
  | 31 => ⟨S16384x8, .f32⟩
  | 32 => ⟨S16384x8x1, .f32⟩
  | 33 => ⟨S16384x8x1, .f32⟩
  | 34 => ⟨S16384x8x1, .f32⟩
  | 35 => ⟨S16384x8x3, .f32⟩
  | _ => ⟨S16384x8x2, .f32⟩

abbrev hbmTy (i : Nat) : BufTy := match i / 128 with
  | 0 => hbmTy0_0 i
  | 1 => hbmTy0_1 i
  | _ => ⟨S16384x8x2, .f32⟩

abbrev bufTy : (tb : Table) → Fin (tcTables nBuf tb) → BufTy
  | .hbm, ⟨i, _⟩ => hbmTy i
  | _, _ => ⟨S16384x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v7 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_call2_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_call7_v0 : Ref sig .tc := ⟨.hbm, 94, rfl⟩
abbrev main_call7_v1 : Ref sig .tc := ⟨.hbm, 95, rfl⟩
abbrev main_call7_v2 : Ref sig .tc := ⟨.hbm, 96, rfl⟩
abbrev main_call7_cst : Ref sig .tc := ⟨.hbm, 97, rfl⟩
abbrev main_call7_v3 : Ref sig .tc := ⟨.hbm, 98, rfl⟩
abbrev main_call7_v4 : Ref sig .tc := ⟨.hbm, 99, rfl⟩
abbrev main_call7_cst_0 : Ref sig .tc := ⟨.hbm, 100, rfl⟩
abbrev main_call7_v5 : Ref sig .tc := ⟨.hbm, 101, rfl⟩
abbrev main_call7_v6 : Ref sig .tc := ⟨.hbm, 102, rfl⟩
abbrev main_call7_cst_1 : Ref sig .tc := ⟨.hbm, 103, rfl⟩
abbrev main_call7_v7 : Ref sig .tc := ⟨.hbm, 104, rfl⟩
abbrev main_call7_v8 : Ref sig .tc := ⟨.hbm, 105, rfl⟩
abbrev main_call7_v9 : Ref sig .tc := ⟨.hbm, 106, rfl⟩
abbrev main_call7_v10 : Ref sig .tc := ⟨.hbm, 107, rfl⟩
abbrev main_call7_v11 : Ref sig .tc := ⟨.hbm, 108, rfl⟩
abbrev main_call7_v12 : Ref sig .tc := ⟨.hbm, 109, rfl⟩
abbrev main_v68 : Ref sig .tc := ⟨.hbm, 110, rfl⟩
abbrev main_cst_16 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_cst_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c : Ref sig .tc := ⟨.hbm, 123, rfl⟩
abbrev main_v78 : Ref sig .tc := ⟨.hbm, 124, rfl⟩
abbrev main_v79 : Ref sig .tc := ⟨.hbm, 125, rfl⟩
abbrev main_c_19 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_20 : Ref sig .tc := ⟨.hbm, 137, rfl⟩
abbrev main_v90 : Ref sig .tc := ⟨.hbm, 138, rfl⟩
abbrev main_cst_21 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_22 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_23 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_24 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩

abbrev nD : Nat := 1
abbrev τ : Topo := Topo.v7x

variable {F : FTy → Type} [FloatOps F]
-- ==== Proof.Store.lean ====
module

public import proofs.«01_k».proof.Proof.Gen.KernelIdeal.Skeleton

@[expose] public section

/-! What an indexed store leaves, element by element, when no two lanes name one element. -/

namespace Cert.Proof

open Idealize.ShloMosaic Cert.KernelIdeal Cert.KernelIdeal.Gen

variable {F : FTy → Type} [FloatOps F]

section StoreIdx

variable {s : Shape} {e : EltTy} {d : Fin 1 → Nat} (idxs : Fin s.rank → IVec ⟨1, d⟩ 32)
    (v : Vec F ⟨1, d⟩ e) (mask : IVec ⟨1, d⟩ 1) (add : Bool) (h : ∀ a x, (idxs a x).toNat < s.size a)

/-- What one lane of an indexed store leaves. -/
def storeLane (g : Vec F s e) (k : Fin (d 0)) : Vec F s e :=
  let x := Shape.ofLane k
  if mask x = 1 then
    let i := idxAt idxs h x
    let y := if add then Elt.idxAdd e (g i) (v x) else v x
    fun j => if (∀ a, (j a).val = (i a).val) then y else g j
  else g

theorem storeLane_apply (g : Vec F s e) (c : Fin (d 0)) (j : s.Idx) :
    storeLane idxs v mask add h g c j
      = if mask (Shape.ofLane c) = 1 ∧ ∀ a, (j a).val = (idxs a (Shape.ofLane c)).toNat then
          (if add then Elt.idxAdd e (g j) (v (Shape.ofLane c)) else v (Shape.ofLane c)) else g j := by
  unfold storeLane
  dsimp only
  by_cases hh : ∀ a, (j a).val = (idxs a (Shape.ofLane c)).toNat
  · have hi : idxAt idxs h (Shape.ofLane c) = j := funext fun a => Fin.ext (hh a).symm
    split
    · next hm => rw [if_pos (⟨hm, hh⟩ : _ ∧ _), hi]; exact if_pos (fun _ => rfl)
    · next hm => rw [if_neg (fun e => hm (And.left e))]
  · rw [if_neg (fun e => hh (And.right e))]
    split
    · exact if_neg hh
    · rfl

theorem foldl_storeLane (j : s.Idx) (k : Fin (d 0))
    (hk : ∀ k' : Fin (d 0), (∀ a, (j a).val = (idxs a (Shape.ofLane k')).toNat) → k' = k) (L : List (Fin (d 0))) :
    L.Nodup → ∀ g : Vec F s e, L.foldl (storeLane idxs v mask add h) g j
      = if k ∈ L ∧ mask (Shape.ofLane k) = 1 ∧ ∀ a, (j a).val = (idxs a (Shape.ofLane k)).toNat then
          (if add then Elt.idxAdd e (g j) (v (Shape.ofLane k)) else v (Shape.ofLane k))
        else g j := by
  induction L with
  | nil => intro _ g; simp
  | cons c L ih =>
    intro hn g
    have hn' := List.nodup_cons.mp hn
    rw [List.foldl_cons, ih hn'.2]
    have hg := storeLane_apply idxs v mask add h g c j
    by_cases hc : c = k
    · subst hc
      rw [if_neg (fun e => hn'.1 e.1), hg]
      simp only [List.mem_cons, true_or, true_and]
    · rw [if_neg (fun e => hc (hk c e.2))] at hg
      rw [hg]
      have hck : k ≠ c := fun e => hc e.symm
      simp only [List.mem_cons, hck, false_or]

/-- The element `j` after an indexed store: only lane `k` can name it, so it holds what lane `k` stores if that lane is
    set and names `j`, and what was there otherwise. -/
theorem storeIdx_apply (f : Vec F s e) (j : s.Idx) (k : Fin (d 0))
    (hk : ∀ k' : Fin (d 0), (∀ a, (j a).val = (idxs a (Shape.ofLane k')).toNat) → k' = k) :
    storeIdx f idxs v mask add h j
      = if mask (Shape.ofLane k) = 1 ∧ ∀ a, (j a).val = (idxs a (Shape.ofLane k)).toNat then
          (if add then Elt.idxAdd e (f j) (v (Shape.ofLane k)) else v (Shape.ofLane k))
        else f j := by
  have hf : storeIdx f idxs v mask add h = (List.finRange (d 0)).foldl (storeLane idxs v mask add h) f := by
    unfold storeIdx storeLane
    congr! 3
    dsimp only
    split
    · funext j
      congr
    · rfl
  rw [hf, foldl_storeLane idxs v mask add h j k hk _ (List.nodup_finRange _) f]
  simp only [List.mem_finRange, true_and]

end StoreIdx

/-- Lane `l` of a vector of sixteen. -/
abbrev lane (l : Fin 16) : S16.Idx := Shape.ofLane (d := ![16]) l

theorem lane_eta (x : S16.Idx) : lane (x 0) = x := by
  funext a; match a with | 0 => rfl

/-- Row `r`, lane `l` of the accumulator: the rows `v` names, one per lane, with `w` added where the lane is set. -/
def addAt (v : IVec S16 32) (w : FVec F S16 .f32) (mask : IVec S16 1) (f : Vec F S40x16 .f32) : Vec F S40x16 .f32 :=
  fun j => if mask (lane (j 1)) = 1 ∧ (j 0).val = (v (lane (j 1))).toNat then FloatOps.idxAddf (f j) (w (lane (j 1))) else f j

/-- Column `c` of a two-axis array of sixteen rows set to `w`, the rest kept. -/
def setCol {n : Nat} (c : Nat) (w : FVec F S16 .f32) (f : Vec F (⟨2, ![16, n]⟩ : Shape) .f32) : Vec F (⟨2, ![16, n]⟩ : Shape) .f32 :=
  fun j => if (j 1).val = c then w (lane (j 0)) else f j

/-- The lanes' own numbers. -/
abbrev lanes : IVec S16 32 := iota .scVector S16 32 [0] iota_S16_d0_w32_scVector

theorem lanes_toNat (x : S16.Idx) : (lanes x).toNat = (x 0).val := by
  show (BitVec.ofNat 32 (0 * 16 + (x 0).val)).toNat = _
  have := (x 0).isLt
  rw [BitVec.toNat_ofNat, Nat.mod_eq_of_lt (by simp at this; omega)]; omega

/-- An indexed add into the accumulator, lane `l` naming column `l`. -/
theorem storeIdx_addAt (f : Vec F S40x16 .f32) (v : IVec S16 32) (w : FVec F S16 .f32) (mask : IVec S16 1)
    (h : ∀ a x, ((![v, lanes] : Fin 2 → IVec S16 32) a x).toNat < S40x16.size a) :
    storeIdx (s := S40x16) (e := .f32) f ![v, lanes] w mask true h = addAt v w mask f := by
  funext j
  rw [storeIdx_apply (k := j 1)]
  · simp only [addAt, Fin.forall_fin_two, if_true, Elt.idxAdd_f32]
    have e : (j 1).val = ((![v, lanes] : Fin 2 → IVec S16 32) 1 (lane (j 1))).toNat := (lanes_toNat (lane (j 1))).symm
    simp only [← e, and_true]
    rfl
  · intro k' hk'
    have := hk' 1
    apply Fin.ext
    exact (this.trans (lanes_toNat (lane k'))).symm

/-- An indexed store of a column, lane `l` naming row `l`. -/
theorem storeIdx_setCol {n : Nat} (f : Vec F (⟨2, ![16, n]⟩ : Shape) .f32) (c : IVec S16 32) (c₀ : Nat) (hc : ∀ x, (c x).toNat = c₀)
    (w : FVec F S16 .f32)
    (h : ∀ a x, ((![lanes, c] : Fin 2 → IVec S16 32) a x).toNat < (⟨2, ![16, n]⟩ : Shape).size a) :
    storeIdx (s := (⟨2, ![16, n]⟩ : Shape)) (e := .f32) f ![lanes, c] w (fun _ => 1#1) false h = setCol c₀ w f := by
  funext j
  rw [storeIdx_apply (k := j 0)]
  · have e : (j 0).val = ((![lanes, c] : Fin 2 → IVec S16 32) 0 (lane (j 0))).toNat := (lanes_toNat (lane (j 0))).symm
    have e' : ((![lanes, c] : Fin 2 → IVec S16 32) 1 (lane (j 0))).toNat = c₀ := hc _
    simp only [setCol, Fin.forall_fin_two]
    rw [← e, e']
    simp
  · intro k' hk'
    have := hk' 0
    apply Fin.ext
    exact (this.trans (lanes_toNat (lane k'))).symm

end Cert.Proof
-- ==== Proof.Base.lean ====
module

public import proofs.«01_k».proof.Proof.Store
public import Idealize.ShloMosaic.Lib.SparseCore.Quiescent
public import Idealize.ShloMosaic.Lib.Transfers
public import Idealize.ShloMosaic.Lib.Pipeline.Kit

@[expose] public section

/-! The program as the launch theorem sees it, the resources, the buffers of one vector subcore and what it holds of
    them. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the local transfers' tokens -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## One subcore's buffers -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The neighbours (flattened), the binned means, the directions: the arrays the task copies from and to. -/
abbrev nW : Memref sig .scVector .hbm S16384x2048 .f32 := Memref.whole main_v0_scv
abbrev cW : Memref sig .scVector .hbm S16384x24 .f32 := Memref.whole main_v1_0_scv
abbrev fW : Memref sig .scVector .hbm S16384x128 .f32 := Memref.whole main_v1_1_scv
/-- The two landing slots, the accumulator, the directions of a block, the means of a block. -/
abbrev xW : Memref sig .scVector .vmem S2x16x2048 .f32 := Memref.whole cc0_scratch0
abbrev aW : Memref sig .scVector .vmem S40x16 .f32 := Memref.whole cc0_scratch1
abbrev dW : Memref sig .scVector .vmem S16x128 .f32 := Memref.whole cc0_scratch2
abbrev oW : Memref sig .scVector .vmem S16x24 .f32 := Memref.whole cc0_scratch3

abbrev slot0 : Memref sig .scVector .vmem S16x2048 .f32 :=
  (xW.slice (Rect.unit (s := S2x16x2048) ![0, 0, 0] S1x16x2048.size inb_S2x16x2048_S1x16x2048_0_0_0) (fun _ => rfl)).squeeze S16x2048 squeezes_S1x16x2048_S16x2048
abbrev slot1 : Memref sig .scVector .vmem S16x2048 .f32 :=
  (xW.slice (Rect.unit (s := S2x16x2048) ![1, 0, 0] S1x16x2048.size inb_S2x16x2048_S1x16x2048_1_0_0) (fun _ => rfl)).squeeze S16x2048 squeezes_S1x16x2048_S16x2048

variable [FloatOps F] (d : Dev nD) (L : grid0.Coords)

/-- The task's program `p` run to `Q`. -/
abbrev WP {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

omit [FloatOps F] in
/-- The accumulator at `f`. -/
abbrev atA (f : Vec F S40x16 .f32) : sProp 𝕄 := aW.view.loc (thr d L) ↦{fullShare} (f : Buf (Elt F) (aW.view.loc (thr d L)))
abbrev atD (f : Vec F S16x128 .f32) : sProp 𝕄 := dW.view.loc (thr d L) ↦{fullShare} (f : Buf (Elt F) (dW.view.loc (thr d L)))
abbrev atO (f : Vec F S16x24 .f32) : sProp 𝕄 := oW.view.loc (thr d L) ↦{fullShare} (f : Buf (Elt F) (oW.view.loc (thr d L)))
/-- A landing slot at `X`. -/
def atX (s : Memref sig .scVector .vmem S16x2048 .f32) (X : Vec F S16x2048 .f32) : sProp 𝕄 :=
  iprop(∃ g : Buf (Elt F) (s.view.loc (thr d L)), ⌜s.view.read (Elt F) g = X⌝ ∗ (s.view.loc (thr d L) ↦[s.view.set]{fullShare} g))

end Cert.Proof
-- ==== Proof.Steps.lean ====
module

public import proofs.«01_k».proof.Proof.Base

@[expose] public section

/-! The steps of a task's program: a row zeroed, a row loaded, a column gathered out of a landing slot, an indexed add
    into the accumulator, an indexed store of a column. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

/-- Row `i`, column `j`. -/
abbrev ix2 {m n : Nat} (i : Fin m) (j : Fin n) : (⟨2, ![m, n]⟩ : Shape).Idx := Shape.pair (d := ![m, n]) i j

/-- Zero. -/
abbrev zf : F .f32 := Scalar.ofBits .f32 0x00000000#32

/-- The rows below `hi` zeroed. -/
def zeroRows (hi : Nat) (f : Vec F S40x16 .f32) : Vec F S40x16 .f32 := fun j => if (j 0).val < hi then zf else f j

theorem zeroRows_zero (f : Vec F S40x16 .f32) : zeroRows 0 f = f := by
  funext j; simp [zeroRows]

/-- Row `r`. -/
def rowOf (A : Vec F S40x16 .f32) (r : Nat) (hr : r < 40) : Vec F S1x16 .f32 := fun x => A (ix2 (m := 40) (n := 16) ⟨r, hr⟩ (x 1))

/-- Column `c` of a landing slot. -/
def colOf (X : Vec F S16x2048 .f32) (c : Nat) (hc : c < 2048) : Vec F S16 .f32 := fun x => X (ix2 (m := 16) (n := 2048) (x 0) ⟨c, hc⟩)

abbrev rowR (r : Nat) (inb : ∀ a, (![r, 0] : Fin 2 → Nat) a + S1x16.size a ≤ S40x16.size a) : Rect S40x16 :=
  Rect.unit (s := S40x16) ![r, 0] S1x16.size inb

theorem rowR_emb (r : Nat) (inb) (hr : r < 40) (x : S1x16.Idx) : (rowR r inb).emb x = ix2 (m := 40) (n := 16) ⟨r, hr⟩ (x 1) := by
  funext a
  apply Fin.ext
  rw [Rect.emb_apply]
  match a with
  | ⟨0, _⟩ =>
    have : (x 0).val < 1 := (x 0).isLt
    show r + 1 * (x 0).val = r
    omega
  | ⟨1, _⟩ => show 0 + 1 * (x 1).val = (x 1).val; omega

/-- A row loaded. -/
theorem wp_loadRow {α : Type} {Q : α → sProp 𝕄} (A : Vec F S40x16 .f32) (r : Nat) (hr : r < 40) {inb} {hl}
    {k : Vec F S1x16 .f32 → Prog (TpuEff nD τ sig (Elt F) Λ₀ (.scVector (cV L) (jV L))) α} :
    (atA d L A : sProp 𝕄) ⊢ iprop((atA d L A -∗ WP d L (k (rowOf A r hr)) Q)
      -∗ WP d L (.op (.load aW (rowR r inb).toLoadRect hl) k) Q) := by
  have e : aW.view.readAt (Elt F) (rowR r inb).toLoadRect (A : Buf (Elt F) (aW.view.loc (thr d L))) = rowOf A r hr := by
    funext x
    show A ((rowR r inb).emb x) = _
    rw [rowR_emb r inb hr x]; rfl
  rw [← e]
  exact wp_load 𝒱₀ (thr d L) none Set.univ (m := aW) (S := Finset.univ) (Finset.subset_univ _)

/-- A row loaded and zeroed. -/
theorem wp_zeroRow {α : Type} {Q : α → sProp 𝕄} (A : Vec F S40x16 .f32) (r : Nat) (hr : r < 40) {inb} {hl hx hm}
    {k : PUnit → Prog (TpuEff nD τ sig (Elt F) Λ₀ (.scVector (cV L) (jV L))) α} :
    (atA d L (zeroRows r A) : sProp 𝕄) ⊢ iprop((atA d L (zeroRows (r + 1) A) -∗ WP d L (k ⟨⟩) Q)
      -∗ WP d L (.op (.load aW (rowR r inb).toLoadRect hl) fun _ =>
        .op (.store aW (rowR r inb) (shapeCast S1x16 (k0_pay106 (F := F)) shapeCasts_S16_S1x16) Finset.univ hx hm) k) Q) := by
  iintro H Hk
  iapply (wp_load 𝒱₀ (thr d L) none Set.univ (m := aW) (S := Finset.univ) (Finset.subset_univ _)) $$ H
  iintro H
  iapply (wp_store 𝒱₀ (thr d L) none Set.univ (m := aW) (r := rowR r inb) (Mk := Finset.univ) (S := Finset.univ) (Finset.subset_univ _)) $$ H
  iintro H
  iapply Hk
  have e : (aW.access (rowR r inb)).write (Elt F) (zeroRows r A : Buf (Elt F) (aW.view.loc (thr d L)))
      (shapeCast S1x16 (k0_pay106 (F := F)) shapeCasts_S16_S1x16) Finset.univ = zeroRows (r + 1) A := by
    funext j
    by_cases hj : (j 0).val = r
    · have ej : (aW.access (rowR r inb)).emb (ix2 (m := 1) (n := 16) 0 (j 1)) = j := by
        refine (rowR_emb r inb hr _).trans ?_
        rw [← Shape.pair_eta j]
        congr 1
        exact Fin.ext hj.symm
      rw [← ej, View.write_emb_of_mem _ _ (Finset.mem_univ _), ej]
      show zf = zeroRows (r + 1) A j
      unfold zeroRows; rw [if_pos (by omega)]
    · rw [View.write_of_not_mem]
      · have : (j 0).val < r ↔ (j 0).val < r + 1 := by omega
        simp only [zeroRows, this]
      · intro hm
        obtain ⟨x, -, hx⟩ := Finset.mem_map.mp hm
        refine hj ?_
        rw [← hx]
        exact congrArg (fun y => (y 0).val) (rowR_emb r inb hr x)
  rw [e]
  iexact H

/-- A column gathered out of a landing slot. -/
theorem wp_gather {α : Type} {Q : α → sProp 𝕄} (s : Memref sig .scVector .vmem S16x2048 .f32) (X : Vec F S16x2048 .f32) (v : IVec S16 32) (c : Nat) (hc : c < 2048)
    (hv : ∀ x, (v x).toNat = c) {h hl} {k : Vec F S16 .f32 → Prog (TpuEff nD τ sig (Elt F) Λ₀ (.scVector (cV L) (jV L))) α} :
    (atX d L s X : sProp 𝕄) ⊢ iprop((atX d L s X -∗ WP d L (k (colOf X c hc)) Q)
      -∗ WP d L (SparseCore.vectorLoadIdx s ![lanes, v] h hl >>= k) Q) := by
  unfold atX
  iintro ⟨%g, %hg, H⟩ Hk
  have hset : (s.access (.whole S16x2048)).set = s.view.set := by
    rw [View.set_slice, Rect.set_whole]; rfl
  have e : loadIdx ((s.access (.whole S16x2048)).read (Elt F) g) ![lanes, v] h = colOf X c hc := by
    subst hg
    funext x
    show s.view.read (Elt F) g ((Rect.whole S16x2048).emb (idxAt ![lanes, v] h x)) = s.view.read (Elt F) g _
    congr 1
    rw [Rect.emb_whole_apply, ← Shape.pair_eta (idxAt ![lanes, v] h x)]
    congr 1
    · exact Fin.ext (lanes_toNat x)
    · exact Fin.ext (hv x)
  iapply (SparseCore.wp_vectorLoadIdx 𝒱₀ (thr d L) none Set.univ (base := s) (S := s.view.set) (hset ▸ subset_rfl)) $$ H
  iintro H
  rw [e]
  iapply Hk
  iexists g
  isplitr
  · ipureintro; exact hg
  · iexact H

/-- An indexed add into the accumulator, lane `l` naming column `l`. -/
theorem wp_addAt {α : Type} {Q : α → sProp 𝕄} (A : Vec F S40x16 .f32) (v : IVec S16 32) (w : FVec F S16 .f32) (mask : IVec S16 1) {h hs}
    {k : PUnit → Prog (TpuEff nD τ sig (Elt F) Λ₀ (.scVector (cV L) (jV L))) α} :
    (atA d L A : sProp 𝕄) ⊢ iprop((atA d L (addAt v w mask A) -∗ WP d L (k ⟨⟩) Q)
      -∗ WP d L (SparseCore.vectorStoreIdx aW ![v, lanes] w mask true h hs >>= k) Q) := by
  iintro H Hk
  have hset : (aW.access (.whole S40x16)).set = Finset.univ := Memref.set_access_whole _
  have hw : ∀ w' : Vec F S40x16 .f32, (aW.access (.whole S40x16)).write (Elt F) (A : Buf (Elt F) (aW.view.loc (thr d L))) w' Finset.univ = w' :=
    fun w' => Memref.write_access_whole_univ (Elt F) cc0_scratch1 A w'
  have hr : (aW.access (.whole S40x16)).read (Elt F) (A : Buf (Elt F) (aW.view.loc (thr d L))) = A := Memref.read_access_whole (Elt F) cc0_scratch1 A
  iapply (SparseCore.wp_vectorStoreIdx 𝒱₀ (thr d L) none Set.univ (base := aW) (f := (A : Buf (Elt F) (aW.view.loc (thr d L))))) $$ [H]
  · rw [hset]; iexact H
  iintro H
  rw [hw, hset, hr, storeIdx_addAt]
  iapply Hk
  iexact H

/-- An indexed store of a column of directions. -/
theorem wp_setColD {α : Type} {Q : α → sProp 𝕄} (A : Vec F S16x128 .f32) (v : IVec S16 32) (c : Nat) (hv : ∀ x, (v x).toNat = c) (w : FVec F S16 .f32) {h hs}
    {k : PUnit → Prog (TpuEff nD τ sig (Elt F) Λ₀ (.scVector (cV L) (jV L))) α} :
    (atD d L A : sProp 𝕄) ⊢ iprop((atD d L (setCol c w A) -∗ WP d L (k ⟨⟩) Q)
      -∗ WP d L (SparseCore.vectorStoreIdx dW ![lanes, v] w (fun _ => 1#1) false h hs >>= k) Q) := by
  iintro H Hk
  have hset : (dW.access (.whole S16x128)).set = Finset.univ := Memref.set_access_whole _
  have hw : ∀ w' : Vec F S16x128 .f32, (dW.access (.whole S16x128)).write (Elt F) (A : Buf (Elt F) (dW.view.loc (thr d L))) w' Finset.univ = w' :=
    fun w' => Memref.write_access_whole_univ (Elt F) cc0_scratch2 A w'
  have hr : (dW.access (.whole S16x128)).read (Elt F) (A : Buf (Elt F) (dW.view.loc (thr d L))) = A := Memref.read_access_whole (Elt F) cc0_scratch2 A
  iapply (SparseCore.wp_vectorStoreIdx 𝒱₀ (thr d L) none Set.univ (base := dW) (f := (A : Buf (Elt F) (dW.view.loc (thr d L))))) $$ [H]
  · rw [hset]; iexact H
  iintro H
  rw [hw, hset, hr, storeIdx_setCol A v c hv]
  iapply Hk
  iexact H

/-- An indexed store of a column of means. -/
theorem wp_setColO {α : Type} {Q : α → sProp 𝕄} (A : Vec F S16x24 .f32) (v : IVec S16 32) (c : Nat) (hv : ∀ x, (v x).toNat = c) (w : FVec F S16 .f32) {h hs}
    {k : PUnit → Prog (TpuEff nD τ sig (Elt F) Λ₀ (.scVector (cV L) (jV L))) α} :
    (atO d L A : sProp 𝕄) ⊢ iprop((atO d L (setCol c w A) -∗ WP d L (k ⟨⟩) Q)
      -∗ WP d L (SparseCore.vectorStoreIdx oW ![lanes, v] w (fun _ => 1#1) false h hs >>= k) Q) := by
  iintro H Hk
  have hset : (oW.access (.whole S16x24)).set = Finset.univ := Memref.set_access_whole _
  have hw : ∀ w' : Vec F S16x24 .f32, (oW.access (.whole S16x24)).write (Elt F) (A : Buf (Elt F) (oW.view.loc (thr d L))) w' Finset.univ = w' :=
    fun w' => Memref.write_access_whole_univ (Elt F) cc0_scratch3 A w'
  have hr : (oW.access (.whole S16x24)).read (Elt F) (A : Buf (Elt F) (oW.view.loc (thr d L))) = A := Memref.read_access_whole (Elt F) cc0_scratch3 A
  iapply (SparseCore.wp_vectorStoreIdx 𝒱₀ (thr d L) none Set.univ (base := oW) (f := (A : Buf (Elt F) (oW.view.loc (thr d L))))) $$ [H]
  · rw [hset]; iexact H
  iintro H
  rw [hw, hset, hr, storeIdx_setCol A v c hv]
  iapply Hk
  iexact H

end Cert.Proof
-- ==== Proof.Body.lean ====
module

public import proofs.«01_k».proof.Proof.Steps
public import Idealize.ShloMosaic.Lib.Tactic

@[expose] public section

/-! One trip of the loop over a block's neighbours: sixteen columns gathered, the neighbour's mask, distances, direction
    and bin computed, four indexed adds and a column of directions stored. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

section Values

variable (X : Vec F S16x2048 .f32) (n : Nat) (hn : n < 128)

/-- Word `j` of neighbour `n`, of each of the block's sixteen rows. -/
abbrev word (j : Nat) (hj : j < 16) : Vec F S16 .f32 := colOf X (16 * n + j) (by omega)

def mskV : IVec S16 1 := k0_pay3 (word X n hn 0 (by decide)) (word X n hn 1 (by decide)) (word X n hn 2 (by decide)) (word X n hn 3 (by decide))
  (word X n hn 4 (by decide)) (word X n hn 5 (by decide)) (word X n hn 6 (by decide)) (word X n hn 7 (by decide))
  (word X n hn 8 (by decide)) (word X n hn 9 (by decide)) (word X n hn 10 (by decide)) (word X n hn 11 (by decide))
  (word X n hn 12 (by decide)) (word X n hn 13 (by decide)) (word X n hn 14 (by decide)) (word X n hn 15 (by decide))

/-- How far the neighbour moved, how far it is, its direction, its direction's bin. -/
def movV : FVec F S16 .f32 := k0_pay4 (word X n hn 0 (by decide)) (word X n hn 1 (by decide)) (word X n hn 14 (by decide)) (word X n hn 15 (by decide))
def dstV : FVec F S16 .f32 := k0_pay5 (word X n hn 14 (by decide)) (word X n hn 15 (by decide))
def dirOf (y x : Vec F S16 .f32) : FVec F S16 .f32 :=
  k0_pay16 y x (k0_pay6 y) (k0_pay7 x) (k0_pay8 y x) (k0_pay9 y x) (k0_pay10 y x) (k0_pay11 y x) (k0_pay12 y x) (k0_pay13 y x) (k0_pay14 y x)
    (k0_pay15 y x) (Scalar.ofBits .f32 0x3DDFC41B#32)
def binOf (y x : Vec F S16 .f32) : IVec S16 32 :=
  k0_pay17 y x (k0_pay6 y) (k0_pay7 x) (k0_pay8 y x) (k0_pay9 y x) (k0_pay10 y x) (k0_pay11 y x) (k0_pay12 y x) (k0_pay13 y x) (k0_pay14 y x)
    (k0_pay15 y x) (Scalar.ofBits .f32 0x3DDFC41B#32)
def dirV : FVec F S16 .f32 := dirOf (word X n hn 14 (by decide)) (word X n hn 15 (by decide))
def binV : IVec S16 32 := binOf (word X n hn 14 (by decide)) (word X n hn 15 (by decide))

/-- What the neighbour adds to the accumulator: in each row, at its bin, one, how far it moved, how far it is and its
    direction. -/
def accStep (A : Vec F S40x16 .f32) : Vec F S40x16 .f32 :=
  let b := k0_pay34 (binV X n hn) 2#32
  addAt (k0_pay37 b) (dirV X n hn) (mskV X n hn) (addAt (k0_pay36 b) (dstV X n hn) (mskV X n hn)
    (addAt (k0_pay35 b) (movV X n hn) (mskV X n hn) (addAt b (k0_pay105 (F := F)) (mskV X n hn) A)))

end Values

/-! ## The side conditions -/

theorem base_word (t : Fin k0_t2_loop.trips) (j : Nat) (hj : j < 16) (x : S16.Idx) :
    (addi (k0_pay2 0#32 1#32 t) (broadcast S16 (BitVec.ofNat 32 j)) x).toNat = 16 * t.val + j := by
  have ht : t.val < 128 := t.isLt
  show (Scalar.addi (Scalar.muli (Scalar.addi 0#32 (Scalar.muli (Scf.iv 0#32 1#32 t) 1#32)) 16#32) (BitVec.ofNat 32 j)).toNat = _
  simp only [Scf.iv, Scalar.addi, Scalar.muli, IntOp.addi, IntOp.muli, BitVec.toNat_add, BitVec.toNat_mul, BitVec.toNat_ofNat]
  omega

theorem trip_word (t : Fin k0_t2_loop.trips) (x : S16.Idx) :
    (broadcast S16 (Scalar.addi 0#32 (Scalar.muli (Scf.iv 0#32 1#32 t) 1#32)) x).toNat = t.val := by
  have ht : t.val < 128 := t.isLt
  show (Scalar.addi 0#32 (Scalar.muli (Scf.iv 0#32 1#32 t) 1#32)).toNat = _
  simp only [Scf.iv, Scalar.addi, Scalar.muli, IntOp.addi, IntOp.muli, BitVec.toNat_add, BitVec.toNat_mul, BitVec.toNat_ofNat]
  omega

theorem clamp_le (v : BitVec 32) : (IntOp.minsi (IntOp.maxsi v 0#32) 8#32).toNat ≤ 8 := by
  have h0 : (IntOp.maxsi v 0#32).msb = false := by
    unfold IntOp.maxsi; split
    · rename_i h; rw [BitVec.msb_eq_toInt]; simp [BitVec.slt] at h ⊢; omega
    · rfl
  unfold IntOp.minsi; split
  · rename_i h
    rw [BitVec.slt_eq_ult_of_msb_eq (by rw [h0]; rfl)] at h
    simp [BitVec.ult] at h
    omega
  · decide

theorem bin_le (y x : Vec F S16 .f32) (l : S16.Idx) : (binOf y x l).toNat ≤ 8 := clamp_le _

theorem row_toNat (b : IVec S16 32) (hb : ∀ l, (b l).toNat ≤ 8) (l : S16.Idx) :
    (k0_pay34 b 2#32 l).toNat = 4 * (b l).toNat ∧ (k0_pay35 (k0_pay34 b 2#32) l).toNat = 4 * (b l).toNat + 1
      ∧ (k0_pay36 (k0_pay34 b 2#32) l).toNat = 4 * (b l).toNat + 2 ∧ (k0_pay37 (k0_pay34 b 2#32) l).toNat = 4 * (b l).toNat + 3 := by
  have h := hb l
  have e : (k0_pay34 b 2#32 l).toNat = 4 * (b l).toNat := by
    show (b l <<< 2#32).toNat = _
    rw [BitVec.shiftLeft_eq', BitVec.toNat_shiftLeft, Nat.shiftLeft_eq]
    simp only [BitVec.toNat_ofNat, Nat.reduceMod, Nat.reducePow]
    omega
  refine ⟨e, ?_, ?_, ?_⟩
  · show (k0_pay34 b 2#32 l + 1#32).toNat = _
    rw [BitVec.toNat_add, e]; simp only [BitVec.toNat_ofNat]; omega
  · show (k0_pay34 b 2#32 l + 2#32).toNat = _
    rw [BitVec.toNat_add, e]; simp only [BitVec.toNat_ofNat]; omega
  · show (k0_pay34 b 2#32 l + 3#32).toNat = _
    rw [BitVec.toNat_add, e]; simp only [BitVec.toNat_ofNat]; omega

theorem row_lt (y x : Vec F S16 .f32) (l : S16.Idx) :
    (k0_pay34 (binOf y x) 2#32 l).toNat < 40 ∧ (k0_pay35 (k0_pay34 (binOf y x) 2#32) l).toNat < 40
      ∧ (k0_pay36 (k0_pay34 (binOf y x) 2#32) l).toNat < 40 ∧ (k0_pay37 (k0_pay34 (binOf y x) 2#32) l).toNat < 40 := by
  obtain ⟨h0, h1, h2, h3⟩ := row_toNat (binOf y x) (bin_le y x) l
  have := bin_le y x l
  refine ⟨?_, ?_, ?_, ?_⟩ <;> omega

theorem chk_cols {N : Nat} (v : IVec S16 32) (c : Nat) (hc : c < N) (hv : ∀ x, (v x).toNat = c) :
    ∀ a x, ((![lanes, v] : Fin 2 → IVec S16 32) a x).toNat < (⟨2, ![16, N]⟩ : Shape).size a := by
  intro a x
  match a with
  | ⟨0, _⟩ => exact (lanes_toNat x).trans_lt (x 0).isLt
  | ⟨1, _⟩ => exact (hv x).trans_lt hc

theorem chk_rows (v : IVec S16 32) (hv : ∀ x, (v x).toNat < 40) :
    ∀ a x, ((![v, lanes] : Fin 2 → IVec S16 32) a x).toNat < S40x16.size a := by
  intro a x
  match a with
  | ⟨0, _⟩ => exact hv x
  | ⟨1, _⟩ => exact (lanes_toNat x).trans_lt (x 0).isLt

/-! ## The steps with their side conditions -/

theorem wp_done {α : Type} {Q : α → sProp 𝕄} {a : α} : Q a ⊢ WP d L (.ret a) Q := by
  unfold WP; rw [wp_ret]; exact fupd_intro

theorem wp_chk {α : Type} {Q : α → sProp 𝕄} {P : Prop} {dec : Decidable P} (hP : P)
    {k : PLift P → Prog (TpuEff nD τ sig (Elt F) Λ₀ (.scVector (cV L) (jV L))) α} :
    WP d L (k ⟨hP⟩) Q ⊢ WP d L (.op (.assume P dec) k) Q :=
  wp_assume (defs := defs₀ (F := F)) 𝒱₀ (thr d L) none Set.univ (k := k) hP

theorem wp_gatherC {α : Type} {Q : α → sProp 𝕄} (s : Memref sig .scVector .vmem S16x2048 .f32) (X : Vec F S16x2048 .f32) (v : IVec S16 32) (c : Nat) (hc : c < 2048)
    (hv : ∀ x, (v x).toNat = c) {P : Prop} {dec : Decidable P} (hP : P) {h : PLift P → _} {hl}
    {k : PLift P → Vec F S16 .f32 → Prog (TpuEff nD τ sig (Elt F) Λ₀ (.scVector (cV L) (jV L))) α} :
    (atX d L s X : sProp 𝕄) ⊢ iprop((atX d L s X -∗ WP d L (k ⟨hP⟩ (colOf X c hc)) Q)
      -∗ WP d L (.op (.assume P dec) fun p => SparseCore.vectorLoadIdx s ![lanes, v] (h p) hl >>= k p) Q) := by
  iintro H Hk
  iapply (wp_chk d L hP)
  iapply (wp_gather d L s X v c hc hv) $$ H Hk

theorem wp_addAtC {α : Type} {Q : α → sProp 𝕄} (A : Vec F S40x16 .f32) (v : IVec S16 32) (w : FVec F S16 .f32) (mask : IVec S16 1)
    {P : Prop} {dec : Decidable P} (hP : P) {h : PLift P → _} {hs}
    {k : PLift P → PUnit → Prog (TpuEff nD τ sig (Elt F) Λ₀ (.scVector (cV L) (jV L))) α} :
    (atA d L A : sProp 𝕄) ⊢ iprop((atA d L (addAt v w mask A) -∗ WP d L (k ⟨hP⟩ ⟨⟩) Q)
      -∗ WP d L (.op (.assume P dec) fun p => SparseCore.vectorStoreIdx aW ![v, lanes] w mask true (h p) hs >>= k p) Q) := by
  iintro H Hk
  iapply (wp_chk d L hP)
  iapply (wp_addAt d L A v w mask) $$ H Hk

theorem wp_setColDC {α : Type} {Q : α → sProp 𝕄} (A : Vec F S16x128 .f32) (v : IVec S16 32) (c : Nat) (hv : ∀ x, (v x).toNat = c) (w : FVec F S16 .f32)
    {P : Prop} {dec : Decidable P} (hP : P) {h : PLift P → _} {hs}
    {k : PLift P → PUnit → Prog (TpuEff nD τ sig (Elt F) Λ₀ (.scVector (cV L) (jV L))) α} :
    (atD d L A : sProp 𝕄) ⊢ iprop((atD d L (setCol c w A) -∗ WP d L (k ⟨hP⟩ ⟨⟩) Q)
      -∗ WP d L (.op (.assume P dec) fun p => SparseCore.vectorStoreIdx dW ![lanes, v] w (fun _ => 1#1) false (h p) hs >>= k p) Q) := by
  iintro H Hk
  iapply (wp_chk d L hP)
  iapply (wp_setColD d L A v c hv w) $$ H Hk

theorem wp_setColOC {α : Type} {Q : α → sProp 𝕄} (A : Vec F S16x24 .f32) (v : IVec S16 32) (c : Nat) (hv : ∀ x, (v x).toNat = c) (w : FVec F S16 .f32)
    {P : Prop} {dec : Decidable P} (hP : P) {h : PLift P → _} {hs}
    {k : PLift P → PUnit → Prog (TpuEff nD τ sig (Elt F) Λ₀ (.scVector (cV L) (jV L))) α} :
    (atO d L A : sProp 𝕄) ⊢ iprop((atO d L (setCol c w A) -∗ WP d L (k ⟨hP⟩ ⟨⟩) Q)
      -∗ WP d L (.op (.assume P dec) fun p => SparseCore.vectorStoreIdx oW ![lanes, v] w (fun _ => 1#1) false (h p) hs >>= k p) Q) := by
  iintro H Hk
  iapply (wp_chk d L hP)
  iapply (wp_setColO d L A v c hv w) $$ H Hk

/-- The trip, out of slot 0. -/
theorem t2_step (X : Vec F S16x2048 .f32) (A : Vec F S40x16 .f32) (B : Vec F S16x128 .f32) (t : Fin k0_t2_loop.trips) (ht : t.val < 128) :
    iprop(atX d L slot0 X ∗ atA d L A ∗ atD d L B)
      ⊢ WP d L (k0_t2_body L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) (k0_pay106 (F := F)) k0_pay107 k0_pay108 k0_pay109 k0_pay110 k0_pay111 k0_pay112 k0_pay113
          k0_pay114 k0_pay115 k0_pay116 k0_pay117 k0_pay118 k0_pay119 k0_pay120 k0_pay121 k0_pay122 t ())
        fun _ => iprop(atX d L slot0 X ∗ atA d L (accStep X t.val ht A) ∗ atD d L (setCol t.val (dirV X t.val ht) B)) := by
  unfold k0_t2_body
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, bind_assoc]
  iintro ⟨HX, HA, HB⟩
  iapply (wp_gatherC d L slot0 X _ (16 * t.val + 0) (by omega) (base_word t 0 (by decide)) (chk_cols _ _ (by omega) (base_word t 0 (by decide)))) $$ HX
  iintro HX
  iapply (wp_gatherC d L slot0 X _ (16 * t.val + 1) (by omega) (base_word t 1 (by decide)) (chk_cols _ _ (by omega) (base_word t 1 (by decide)))) $$ HX
  iintro HX
  iapply (wp_gatherC d L slot0 X _ (16 * t.val + 2) (by omega) (base_word t 2 (by decide)) (chk_cols _ _ (by omega) (base_word t 2 (by decide)))) $$ HX
  iintro HX
  iapply (wp_gatherC d L slot0 X _ (16 * t.val + 3) (by omega) (base_word t 3 (by decide)) (chk_cols _ _ (by omega) (base_word t 3 (by decide)))) $$ HX
  iintro HX
  iapply (wp_gatherC d L slot0 X _ (16 * t.val + 4) (by omega) (base_word t 4 (by decide)) (chk_cols _ _ (by omega) (base_word t 4 (by decide)))) $$ HX
  iintro HX
  iapply (wp_gatherC d L slot0 X _ (16 * t.val + 5) (by omega) (base_word t 5 (by decide)) (chk_cols _ _ (by omega) (base_word t 5 (by decide)))) $$ HX
  iintro HX
  iapply (wp_gatherC d L slot0 X _ (16 * t.val + 6) (by omega) (base_word t 6 (by decide)) (chk_cols _ _ (by omega) (base_word t 6 (by decide)))) $$ HX
  iintro HX
  iapply (wp_gatherC d L slot0 X _ (16 * t.val + 7) (by omega) (base_word t 7 (by decide)) (chk_cols _ _ (by omega) (base_word t 7 (by decide)))) $$ HX
  iintro HX
  iapply (wp_gatherC d L slot0 X _ (16 * t.val + 8) (by omega) (base_word t 8 (by decide)) (chk_cols _ _ (by omega) (base_word t 8 (by decide)))) $$ HX
  iintro HX
  iapply (wp_gatherC d L slot0 X _ (16 * t.val + 9) (by omega) (base_word t 9 (by decide)) (chk_cols _ _ (by omega) (base_word t 9 (by decide)))) $$ HX
  iintro HX
  iapply (wp_gatherC d L slot0 X _ (16 * t.val + 10) (by omega) (base_word t 10 (by decide)) (chk_cols _ _ (by omega) (base_word t 10 (by decide)))) $$ HX
  iintro HX
  iapply (wp_gatherC d L slot0 X _ (16 * t.val + 11) (by omega) (base_word t 11 (by decide)) (chk_cols _ _ (by omega) (base_word t 11 (by decide)))) $$ HX
  iintro HX
  iapply (wp_gatherC d L slot0 X _ (16 * t.val + 12) (by omega) (base_word t 12 (by decide)) (chk_cols _ _ (by omega) (base_word t 12 (by decide)))) $$ HX
  iintro HX
  iapply (wp_gatherC d L slot0 X _ (16 * t.val + 13) (by omega) (base_word t 13 (by decide)) (chk_cols _ _ (by omega) (base_word t 13 (by decide)))) $$ HX
  iintro HX
  iapply (wp_gatherC d L slot0 X _ (16 * t.val + 14) (by omega) (base_word t 14 (by decide)) (chk_cols _ _ (by omega) (base_word t 14 (by decide)))) $$ HX
  iintro HX
  iapply (wp_gatherC d L slot0 X _ (16 * t.val + 15) (by omega) (base_word t 15 (by decide)) (chk_cols _ _ (by omega) (base_word t 15 (by decide)))) $$ HX
  iintro HX
  iapply (wp_addAtC d L A _ _ _ (chk_rows _ fun l => (row_lt _ _ l).1)) $$ HA
  iintro HA
  iapply (wp_addAtC d L _ _ _ _ (chk_rows _ fun l => (row_lt _ _ l).2.1)) $$ HA
  iintro HA
  iapply (wp_addAtC d L _ _ _ _ (chk_rows _ fun l => (row_lt _ _ l).2.2.1)) $$ HA
  iintro HA
  iapply (wp_addAtC d L _ _ _ _ (chk_rows _ fun l => (row_lt _ _ l).2.2.2)) $$ HA
  iintro HA
  iapply (wp_setColDC d L B _ t.val (trip_word t) _ (chk_cols _ _ ht (trip_word t))) $$ HB
  iintro HB
  iapply (wp_done d L)
  isplitl [HX]
  · iexact HX
  isplitl [HA]
  · iexact HA
  · iexact HB

/-- The trip, out of slot 1. -/
theorem t3_step (X : Vec F S16x2048 .f32) (A : Vec F S40x16 .f32) (B : Vec F S16x128 .f32) (t : Fin k0_t3_loop.trips) (ht : t.val < 128) :
    iprop(atX d L slot1 X ∗ atA d L A ∗ atD d L B)
      ⊢ WP d L (k0_t3_body L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) k0_pay107 k0_pay108 k0_pay109 k0_pay110 k0_pay111 k0_pay112 k0_pay113
          k0_pay114 k0_pay115 k0_pay116 k0_pay117 k0_pay118 k0_pay119 k0_pay120 k0_pay121 k0_pay122 0#32 128#32 t ())
        fun _ => iprop(atX d L slot1 X ∗ atA d L (accStep X t.val ht A) ∗ atD d L (setCol t.val (dirV X t.val ht) B)) := by
  unfold k0_t3_body
  rw [k0_part5_eq_skeleton, k0_part6_eq_skeleton, k0_part7_eq_skeleton, k0_part8_eq_skeleton]
  unfold k0_part5_skel k0_part6_skel k0_part7_skel k0_part8_skel
  simp only [Prog.lift, Prog.bind_op, Prog.bind_ret, Prog.pure_eq_ret, bind_assoc]
  iintro ⟨HX, HA, HB⟩
  iapply (wp_gatherC d L slot1 X _ (16 * t.val + 0) (by omega) (base_word t 0 (by decide)) (chk_cols _ _ (by omega) (base_word t 0 (by decide)))) $$ HX
  iintro HX
  iapply (wp_gatherC d L slot1 X _ (16 * t.val + 1) (by omega) (base_word t 1 (by decide)) (chk_cols _ _ (by omega) (base_word t 1 (by decide)))) $$ HX
  iintro HX
  iapply (wp_gatherC d L slot1 X _ (16 * t.val + 2) (by omega) (base_word t 2 (by decide)) (chk_cols _ _ (by omega) (base_word t 2 (by decide)))) $$ HX
  iintro HX
  iapply (wp_gatherC d L slot1 X _ (16 * t.val + 3) (by omega) (base_word t 3 (by decide)) (chk_cols _ _ (by omega) (base_word t 3 (by decide)))) $$ HX
  iintro HX
  iapply (wp_gatherC d L slot1 X _ (16 * t.val + 4) (by omega) (base_word t 4 (by decide)) (chk_cols _ _ (by omega) (base_word t 4 (by decide)))) $$ HX
  iintro HX
  iapply (wp_gatherC d L slot1 X _ (16 * t.val + 5) (by omega) (base_word t 5 (by decide)) (chk_cols _ _ (by omega) (base_word t 5 (by decide)))) $$ HX
  iintro HX
  iapply (wp_gatherC d L slot1 X _ (16 * t.val + 6) (by omega) (base_word t 6 (by decide)) (chk_cols _ _ (by omega) (base_word t 6 (by decide)))) $$ HX
  iintro HX
  iapply (wp_gatherC d L slot1 X _ (16 * t.val + 7) (by omega) (base_word t 7 (by decide)) (chk_cols _ _ (by omega) (base_word t 7 (by decide)))) $$ HX
  iintro HX
  iapply (wp_gatherC d L slot1 X _ (16 * t.val + 8) (by omega) (base_word t 8 (by decide)) (chk_cols _ _ (by omega) (base_word t 8 (by decide)))) $$ HX
  iintro HX
  iapply (wp_gatherC d L slot1 X _ (16 * t.val + 9) (by omega) (base_word t 9 (by decide)) (chk_cols _ _ (by omega) (base_word t 9 (by decide)))) $$ HX
  iintro HX
  iapply (wp_gatherC d L slot1 X _ (16 * t.val + 10) (by omega) (base_word t 10 (by decide)) (chk_cols _ _ (by omega) (base_word t 10 (by decide)))) $$ HX
  iintro HX
  iapply (wp_gatherC d L slot1 X _ (16 * t.val + 11) (by omega) (base_word t 11 (by decide)) (chk_cols _ _ (by omega) (base_word t 11 (by decide)))) $$ HX
  iintro HX
  iapply (wp_gatherC d L slot1 X _ (16 * t.val + 12) (by omega) (base_word t 12 (by decide)) (chk_cols _ _ (by omega) (base_word t 12 (by decide)))) $$ HX
  iintro HX
  iapply (wp_gatherC d L slot1 X _ (16 * t.val + 13) (by omega) (base_word t 13 (by decide)) (chk_cols _ _ (by omega) (base_word t 13 (by decide)))) $$ HX
  iintro HX
  iapply (wp_gatherC d L slot1 X _ (16 * t.val + 14) (by omega) (base_word t 14 (by decide)) (chk_cols _ _ (by omega) (base_word t 14 (by decide)))) $$ HX
  iintro HX
  iapply (wp_gatherC d L slot1 X _ (16 * t.val + 15) (by omega) (base_word t 15 (by decide)) (chk_cols _ _ (by omega) (base_word t 15 (by decide)))) $$ HX
  iintro HX
  iapply (wp_addAtC d L A _ _ _ (chk_rows _ fun l => (row_lt _ _ l).1)) $$ HA
  iintro HA
  iapply (wp_addAtC d L _ _ _ _ (chk_rows _ fun l => (row_lt _ _ l).2.1)) $$ HA
  iintro HA
  iapply (wp_addAtC d L _ _ _ _ (chk_rows _ fun l => (row_lt _ _ l).2.2.1)) $$ HA
  iintro HA
  iapply (wp_addAtC d L _ _ _ _ (chk_rows _ fun l => (row_lt _ _ l).2.2.2)) $$ HA
  iintro HA
  iapply (wp_setColDC d L B _ t.val (trip_word t) _ (chk_cols _ _ ht (trip_word t))) $$ HB
  iintro HB
  iapply (wp_done d L)
  isplitl [HX]
  · iexact HX
  isplitl [HA]
  · iexact HA
  · iexact HB

end Cert.Proof
-- ==== Proof.Parts.lean ====
module

public import proofs.«01_k».proof.Proof.Body

@[expose] public section

/-! A block's neighbours accumulated, its accumulator zeroed before, its means stored after. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

/-! ## All the neighbours of a block -/

/-- The accumulator after the block's first `n` neighbours. -/
def accN (X : Vec F S16x2048 .f32) (A : Vec F S40x16 .f32) : Nat → Vec F S40x16 .f32
  | 0 => A
  | n + 1 => if h : n < 128 then accStep X n h (accN X A n) else accN X A n

/-- The directions after the block's first `n` neighbours. -/
def dirN (X : Vec F S16x2048 .f32) (B : Vec F S16x128 .f32) : Nat → Vec F S16x128 .f32
  | 0 => B
  | n + 1 => if h : n < 128 then setCol n (dirV X n h) (dirN X B n) else dirN X B n

/-- The neighbours of the block in slot0. -/
theorem t2_run {α : Type} {Q : α → sProp 𝕄} (X : Vec F S16x2048 .f32) (A : Vec F S40x16 .f32) (B : Vec F S16x128 .f32)
    {k : Unit → Prog (TpuEff nD τ sig (Elt F) Λ₀ (.scVector (cV L) (jV L))) α} :
    (iprop(atX d L slot0 X ∗ atA d L A ∗ atD d L B) : sProp 𝕄)
      ⊢ iprop((atX d L slot0 X ∗ atA d L (accN X A 128) ∗ atD d L (dirN X B 128) -∗ WP d L (k ()) Q)
        -∗ WP d L (Scf.Loop.for k0_t2_loop k0_t2_ok ⟨⟩ (k0_t2_body L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) (k0_pay106 (F := F)) k0_pay107 k0_pay108 k0_pay109 k0_pay110 k0_pay111 k0_pay112 k0_pay113 k0_pay114 k0_pay115 k0_pay116 k0_pay117 k0_pay118 k0_pay119 k0_pay120 k0_pay121 k0_pay122) >>= k) Q) := by
  iintro H Hk
  iapply (Scf.wp_for_bind frame _ _ k0_t2_loop.lb k0_t2_loop.ub k0_t2_loop.st k0_t2_ok ⟨⟩ _
    (fun n _ => iprop(atX d L slot0 X ∗ atA d L (accN X A n) ∗ atD d L (dirN X B n))) ?_) $$ [H]
  · intro n _
    have hn : n.val < 128 := n.isLt
    have hA : accN X A (n.val + 1) = accStep X n.val hn (accN X A n.val) := by simp only [accN, dif_pos hn]
    have hB : dirN X B (n.val + 1) = setCol n.val (dirV X n.val hn) (dirN X B n.val) := by simp only [dirN, dif_pos hn]
    rw [hA, hB]
    exact t2_step d L X (accN X A n.val) (dirN X B n.val) n hn
  · iexact H
  iintro %u H
  iapply Hk
  iexact H

/-- The neighbours of the block in slot1. -/
theorem t3_run {α : Type} {Q : α → sProp 𝕄} (X : Vec F S16x2048 .f32) (A : Vec F S40x16 .f32) (B : Vec F S16x128 .f32)
    {k : Unit → Prog (TpuEff nD τ sig (Elt F) Λ₀ (.scVector (cV L) (jV L))) α} :
    (iprop(atX d L slot1 X ∗ atA d L A ∗ atD d L B) : sProp 𝕄)
      ⊢ iprop((atX d L slot1 X ∗ atA d L (accN X A 128) ∗ atD d L (dirN X B 128) -∗ WP d L (k ()) Q)
        -∗ WP d L (Scf.Loop.for k0_t3_loop k0_t3_ok ⟨⟩ (k0_t3_body L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) k0_pay107 k0_pay108 k0_pay109 k0_pay110 k0_pay111 k0_pay112 k0_pay113 k0_pay114 k0_pay115 k0_pay116 k0_pay117 k0_pay118 k0_pay119 k0_pay120 k0_pay121 k0_pay122 0#32 128#32) >>= k) Q) := by
  iintro H Hk
  iapply (Scf.wp_for_bind frame _ _ k0_t3_loop.lb k0_t3_loop.ub k0_t3_loop.st k0_t3_ok ⟨⟩ _
    (fun n _ => iprop(atX d L slot1 X ∗ atA d L (accN X A n) ∗ atD d L (dirN X B n))) ?_) $$ [H]
  · intro n _
    have hn : n.val < 128 := n.isLt
    have hA : accN X A (n.val + 1) = accStep X n.val hn (accN X A n.val) := by simp only [accN, dif_pos hn]
    have hB : dirN X B (n.val + 1) = setCol n.val (dirV X n.val hn) (dirN X B n.val) := by simp only [dirN, dif_pos hn]
    rw [hA, hB]
    exact t3_step d L X (accN X A n.val) (dirN X B n.val) n hn
  · iexact H
  iintro %u H
  iapply Hk
  iexact H

/-! ## The means -/

/-- How many of the neighbours fell in bin `a`, off zero. -/
def cntV (A : Vec F S40x16 .f32) (a : Nat) (ha : a < 8) : FVec F S16 .f32 := k0_pay38 (rowOf A (4 * a) (by omega))

/-- Column `c` of the means. -/
def meanV (A : Vec F S40x16 .f32) (c : Nat) (hc : c < 24) : FVec F S16 .f32 :=
  k0_pay39 (rowOf A (4 * (c / 3)) (by omega)) (rowOf A (4 * (c / 3) + c % 3 + 1) (by omega))

/-- The first `n` columns at the means. -/
def outN (A : Vec F S40x16 .f32) (n : Nat) (g : Vec F S16x24 .f32) : Vec F S16x24 .f32 :=
  fun j => if (j 1).val < n then meanV A (j 1).val (j 1).isLt (lane (j 0)) else g j

theorem outN_zero (A : Vec F S40x16 .f32) (g : Vec F S16x24 .f32) : outN A 0 g = g := by
  funext j; simp [outN]

theorem outN_succ (A : Vec F S40x16 .f32) (c : Nat) (hc : c < 24) (g : Vec F S16x24 .f32) :
    setCol c (meanV A c hc) (outN A c g) = outN A (c + 1) g := by
  funext j
  by_cases h : (j 1).val = c
  · have h2 : (j 1).val < c + 1 := by omega
    subst h
    simp only [setCol, outN, if_pos h2, if_pos]
  · have h2 : (j 1).val < c + 1 ↔ (j 1).val < c := by omega
    simp only [setCol, outN, if_neg h, h2]

theorem wp_row {α : Type} {Q : α → sProp 𝕄} {A : Vec F S40x16 .f32} {r : Nat} {inb : ∀ a, (![r, 0] : Fin 2 → Nat) a + S1x16.size a ≤ S40x16.size a} {hl}
    {k : Vec F S1x16 .f32 → Prog (TpuEff nD τ sig (Elt F) Λ₀ (.scVector (cV L) (jV L))) α} :
    (atA d L A : sProp 𝕄) ⊢ iprop((atA d L A -∗ WP d L (k (rowOf A r (inb 0))) Q)
      -∗ WP d L (.op (.load aW (rowR r inb).toLoadRect hl) k) Q) :=
  wp_loadRow d L A r (inb 0)

theorem wp_zero {α : Type} {Q : α → sProp 𝕄} {A : Vec F S40x16 .f32} {r : Nat} {inb : ∀ a, (![r, 0] : Fin 2 → Nat) a + S1x16.size a ≤ S40x16.size a} {hl hx hm}
    {k : PUnit → Prog (TpuEff nD τ sig (Elt F) Λ₀ (.scVector (cV L) (jV L))) α} :
    (atA d L (zeroRows r A) : sProp 𝕄) ⊢ iprop((atA d L (zeroRows (r + 1) A) -∗ WP d L (k ⟨⟩) Q)
      -∗ WP d L (.op (.load aW (rowR r inb).toLoadRect hl) fun _ =>
        .op (.store aW (rowR r inb) (shapeCast S1x16 (k0_pay106 (F := F)) shapeCasts_S16_S1x16) Finset.univ hx hm) k) Q) :=
  wp_zeroRow d L A r (inb 0)

/-- A column of means stored, after the row it divides is loaded. -/
theorem wp_mean {α : Type} {Q : α → sProp 𝕄} {A : Vec F S40x16 .f32} {g : Vec F S16x24 .f32} (c : Nat) (hc : c < 24)
    {P : Prop} {dec : Decidable P} (hP : P) {h : PLift P → _} {hs}
    {k : PLift P → PUnit → Prog (TpuEff nD τ sig (Elt F) Λ₀ (.scVector (cV L) (jV L))) α} :
    (atO d L (outN A c g) : sProp 𝕄) ⊢ iprop((atO d L (outN A (c + 1) g) -∗ WP d L (k ⟨hP⟩ ⟨⟩) Q)
      -∗ WP d L (.op (.assume P dec) fun p =>
        SparseCore.vectorStoreIdx oW ![lanes, broadcast S16 (BitVec.ofNat 32 c)] (meanV A c hc) (fun _ => 1#1) false (h p) hs >>= k p) Q) := by
  rw [← outN_succ A c hc g]
  exact wp_setColOC d L (outN A c g) _ c (fun _ => by show (BitVec.ofNat 32 c).toNat = c; rw [BitVec.toNat_ofNat]; omega) _ hP

theorem chk_mean (c : Nat) (hc : c < 24) :
    ∀ a x, ((![lanes, broadcast S16 (BitVec.ofNat 32 c)] : Fin 2 → IVec S16 32) a x).toNat < S16x24.size a :=
  chk_cols _ c hc fun _ => by show (BitVec.ofNat 32 c).toNat = c; rw [BitVec.toNat_ofNat]; omega

/-! ## The accumulator zeroed -/

theorem part10 {α : Type} {Q : α → sProp 𝕄} (A : Vec F S40x16 .f32) {k : PUnit → Prog (TpuEff nD τ sig (Elt F) Λ₀ (.scVector (cV L) (jV L))) α} :
    (atA d L (zeroRows 3 A) : sProp 𝕄) ⊢ iprop((atA d L (zeroRows 13 A) -∗ WP d L (k ⟨⟩) Q)
      -∗ WP d L (k0_part10 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part10_eq_skeleton]
  unfold k0_part10_skel
  simp only [Prog.lift, Prog.bind_op, Prog.bind_ret, Prog.pure_eq_ret, bind_assoc]
  iintro H Hk
  iterate 10 (iapply (wp_zero d L) $$ H; iintro H)
  iapply Hk
  iexact H

theorem part11 {α : Type} {Q : α → sProp 𝕄} (A : Vec F S40x16 .f32) {k : PUnit → Prog (TpuEff nD τ sig (Elt F) Λ₀ (.scVector (cV L) (jV L))) α} :
    (atA d L (zeroRows 13 A) : sProp 𝕄) ⊢ iprop((atA d L (zeroRows 23 A) -∗ WP d L (k ⟨⟩) Q)
      -∗ WP d L (k0_part11 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part11_eq_skeleton]
  unfold k0_part11_skel
  simp only [Prog.lift, Prog.bind_op, Prog.bind_ret, Prog.pure_eq_ret, bind_assoc]
  iintro H Hk
  iterate 10 (iapply (wp_zero d L) $$ H; iintro H)
  iapply Hk
  iexact H

theorem part12 {α : Type} {Q : α → sProp 𝕄} (A : Vec F S40x16 .f32) {k : PUnit → Prog (TpuEff nD τ sig (Elt F) Λ₀ (.scVector (cV L) (jV L))) α} :
    (atA d L (zeroRows 23 A) : sProp 𝕄) ⊢ iprop((atA d L (zeroRows 33 A) -∗ WP d L (k ⟨⟩) Q)
      -∗ WP d L (k0_part12 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part12_eq_skeleton]
  unfold k0_part12_skel
  simp only [Prog.lift, Prog.bind_op, Prog.bind_ret, Prog.pure_eq_ret, bind_assoc]
  iintro H Hk
  iterate 10 (iapply (wp_zero d L) $$ H; iintro H)
  iapply Hk
  iexact H

theorem part20 {α : Type} {Q : α → sProp 𝕄} (A : Vec F S40x16 .f32) {k : PUnit → Prog (TpuEff nD τ sig (Elt F) Λ₀ (.scVector (cV L) (jV L))) α} :
    (atA d L (zeroRows 6 A) : sProp 𝕄) ⊢ iprop((atA d L (zeroRows 16 A) -∗ WP d L (k ⟨⟩) Q)
      -∗ WP d L (k0_part20 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part20_eq_skeleton]
  unfold k0_part20_skel
  simp only [Prog.lift, Prog.bind_op, Prog.bind_ret, Prog.pure_eq_ret, bind_assoc]
  iintro H Hk
  iterate 10 (iapply (wp_zero d L) $$ H; iintro H)
  iapply Hk
  iexact H

theorem part21 {α : Type} {Q : α → sProp 𝕄} (A : Vec F S40x16 .f32) {k : PUnit → Prog (TpuEff nD τ sig (Elt F) Λ₀ (.scVector (cV L) (jV L))) α} :
    (atA d L (zeroRows 16 A) : sProp 𝕄) ⊢ iprop((atA d L (zeroRows 26 A) -∗ WP d L (k ⟨⟩) Q)
      -∗ WP d L (k0_part21 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part21_eq_skeleton]
  unfold k0_part21_skel
  simp only [Prog.lift, Prog.bind_op, Prog.bind_ret, Prog.pure_eq_ret, bind_assoc]
  iintro H Hk
  iterate 10 (iapply (wp_zero d L) $$ H; iintro H)
  iapply Hk
  iexact H

theorem part22 {α : Type} {Q : α → sProp 𝕄} (A : Vec F S40x16 .f32) {k : (Σ' (_ : BitVec 32), BitVec 32) → Prog (TpuEff nD τ sig (Elt F) Λ₀ (.scVector (cV L) (jV L))) α} :
    (atA d L (zeroRows 26 A) : sProp 𝕄) ⊢ iprop((atA d L (zeroRows 36 A) -∗ WP d L (k ⟨0#32, 128#32⟩) Q)
      -∗ WP d L (k0_part22 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 (k0_pay106 (F := F)) >>= k) Q) := by
  rw [k0_part22_eq_skeleton]
  unfold k0_part22_skel
  simp only [Prog.lift, Prog.bind_op, Prog.bind_ret, Prog.pure_eq_ret, bind_assoc]
  iintro H Hk
  iterate 10 (iapply (wp_zero d L) $$ H; iintro H)
  iapply Hk
  iexact H

/-! ## The means stored -/

theorem part14 {α : Type} {Q : α → sProp 𝕄} (A : Vec F S40x16 .f32) (g : Vec F S16x24 .f32)
    {k : (Σ' (_ : FVec F S16 .f32), BitVec 32) → Prog (TpuEff nD τ sig (Elt F) Λ₀ (.scVector (cV L) (jV L))) α} :
    (iprop(atA d L A ∗ atO d L (outN A 2 g)) : sProp 𝕄) ⊢ iprop((atA d L A ∗ atO d L (outN A 7 g) -∗ WP d L (k ⟨(cntV A 2 (by decide)), 10#32⟩) Q)
      -∗ WP d L (k0_part14 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (meanV A 2 (by decide)) 2#32 >>= k) Q) := by
  rw [k0_part14_eq_skeleton]
  unfold k0_part14_skel
  simp only [Prog.lift, Prog.bind_op, Prog.bind_ret, Prog.pure_eq_ret, bind_assoc]
  iintro ⟨HA, HO⟩ Hk
  iapply (wp_mean d L 2 (by decide) (chk_mean 2 (by decide))) $$ HO; iintro HO
  iapply (wp_row d L) $$ HA; iintro HA
  iapply (wp_row d L) $$ HA; iintro HA
  iapply (wp_mean d L 3 (by decide) (chk_mean 3 (by decide))) $$ HO; iintro HO
  iapply (wp_row d L) $$ HA; iintro HA
  iapply (wp_mean d L 4 (by decide) (chk_mean 4 (by decide))) $$ HO; iintro HO
  iapply (wp_row d L) $$ HA; iintro HA
  iapply (wp_mean d L 5 (by decide) (chk_mean 5 (by decide))) $$ HO; iintro HO
  iapply (wp_row d L) $$ HA; iintro HA
  iapply (wp_row d L) $$ HA; iintro HA
  iapply (wp_mean d L 6 (by decide) (chk_mean 6 (by decide))) $$ HO; iintro HO
  iapply Hk
  isplitl [HA]
  · iexact HA
  · iexact HO

theorem part15 {α : Type} {Q : α → sProp 𝕄} (A : Vec F S40x16 .f32) (g : Vec F S16x24 .f32)
    {k : PUnit → Prog (TpuEff nD τ sig (Elt F) Λ₀ (.scVector (cV L) (jV L))) α} :
    (iprop(atA d L A ∗ atO d L (outN A 7 g)) : sProp 𝕄) ⊢ iprop((atA d L A ∗ atO d L (outN A 12 g) -∗ WP d L (k ⟨⟩) Q)
      -∗ WP d L (k0_part15 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (cntV A 2 (by decide)) 10#32 >>= k) Q) := by
  rw [k0_part15_eq_skeleton]
  unfold k0_part15_skel
  simp only [Prog.lift, Prog.bind_op, Prog.bind_ret, Prog.pure_eq_ret, bind_assoc]
  iintro ⟨HA, HO⟩ Hk
  iapply (wp_row d L) $$ HA; iintro HA
  iapply (wp_mean d L 7 (by decide) (chk_mean 7 (by decide))) $$ HO; iintro HO
  iapply (wp_row d L) $$ HA; iintro HA
  iapply (wp_mean d L 8 (by decide) (chk_mean 8 (by decide))) $$ HO; iintro HO
  iapply (wp_row d L) $$ HA; iintro HA
  iapply (wp_row d L) $$ HA; iintro HA
  iapply (wp_mean d L 9 (by decide) (chk_mean 9 (by decide))) $$ HO; iintro HO
  iapply (wp_row d L) $$ HA; iintro HA
  iapply (wp_mean d L 10 (by decide) (chk_mean 10 (by decide))) $$ HO; iintro HO
  iapply (wp_row d L) $$ HA; iintro HA
  iapply (wp_mean d L 11 (by decide) (chk_mean 11 (by decide))) $$ HO; iintro HO
  iapply Hk
  isplitl [HA]
  · iexact HA
  · iexact HO

theorem part16 {α : Type} {Q : α → sProp 𝕄} (A : Vec F S40x16 .f32) (g : Vec F S16x24 .f32)
    {k : (Σ' (_ : FVec F S16 .f32) (_ : FVec F S16 .f32), BitVec 32) → Prog (TpuEff nD τ sig (Elt F) Λ₀ (.scVector (cV L) (jV L))) α} :
    (iprop(atA d L A ∗ atO d L (outN A 12 g)) : sProp 𝕄) ⊢ iprop((atA d L A ∗ atO d L (outN A 16 g) -∗ WP d L (k ⟨(cntV A 5 (by decide)), (meanV A 16 (by decide)), 16#32⟩) Q)
      -∗ WP d L (k0_part16 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes >>= k) Q) := by
  rw [k0_part16_eq_skeleton]
  unfold k0_part16_skel
  simp only [Prog.lift, Prog.bind_op, Prog.bind_ret, Prog.pure_eq_ret, bind_assoc]
  iintro ⟨HA, HO⟩ Hk
  iapply (wp_row d L) $$ HA; iintro HA
  iapply (wp_row d L) $$ HA; iintro HA
  iapply (wp_mean d L 12 (by decide) (chk_mean 12 (by decide))) $$ HO; iintro HO
  iapply (wp_row d L) $$ HA; iintro HA
  iapply (wp_mean d L 13 (by decide) (chk_mean 13 (by decide))) $$ HO; iintro HO
  iapply (wp_row d L) $$ HA; iintro HA
  iapply (wp_mean d L 14 (by decide) (chk_mean 14 (by decide))) $$ HO; iintro HO
  iapply (wp_row d L) $$ HA; iintro HA
  iapply (wp_row d L) $$ HA; iintro HA
  iapply (wp_mean d L 15 (by decide) (chk_mean 15 (by decide))) $$ HO; iintro HO
  iapply (wp_row d L) $$ HA; iintro HA
  iapply Hk
  isplitl [HA]
  · iexact HA
  · iexact HO

theorem part17 {α : Type} {Q : α → sProp 𝕄} (A : Vec F S40x16 .f32) (g : Vec F S16x24 .f32)
    {k : (Σ' (_ : FVec F S16 .f32), BitVec 32) → Prog (TpuEff nD τ sig (Elt F) Λ₀ (.scVector (cV L) (jV L))) α} :
    (iprop(atA d L A ∗ atO d L (outN A 16 g)) : sProp 𝕄) ⊢ iprop((atA d L A ∗ atO d L (outN A 21 g) -∗ WP d L (k ⟨(cntV A 7 (by decide)), 29#32⟩) Q)
      -∗ WP d L (k0_part17 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (cntV A 5 (by decide)) (meanV A 16 (by decide)) 16#32 >>= k) Q) := by
  rw [k0_part17_eq_skeleton]
  unfold k0_part17_skel
  simp only [Prog.lift, Prog.bind_op, Prog.bind_ret, Prog.pure_eq_ret, bind_assoc]
  iintro ⟨HA, HO⟩ Hk
  iapply (wp_mean d L 16 (by decide) (chk_mean 16 (by decide))) $$ HO; iintro HO
  iapply (wp_row d L) $$ HA; iintro HA
  iapply (wp_mean d L 17 (by decide) (chk_mean 17 (by decide))) $$ HO; iintro HO
  iapply (wp_row d L) $$ HA; iintro HA
  iapply (wp_row d L) $$ HA; iintro HA
  iapply (wp_mean d L 18 (by decide) (chk_mean 18 (by decide))) $$ HO; iintro HO
  iapply (wp_row d L) $$ HA; iintro HA
  iapply (wp_mean d L 19 (by decide) (chk_mean 19 (by decide))) $$ HO; iintro HO
  iapply (wp_row d L) $$ HA; iintro HA
  iapply (wp_mean d L 20 (by decide) (chk_mean 20 (by decide))) $$ HO; iintro HO
  iapply (wp_row d L) $$ HA; iintro HA
  iapply Hk
  isplitl [HA]
  · iexact HA
  · iexact HO

theorem part24 {α : Type} {Q : α → sProp 𝕄} (A : Vec F S40x16 .f32) (g : Vec F S16x24 .f32)
    {k : PUnit → Prog (TpuEff nD τ sig (Elt F) Λ₀ (.scVector (cV L) (jV L))) α} :
    (iprop(atA d L A ∗ atO d L (outN A 4 g)) : sProp 𝕄) ⊢ iprop((atA d L A ∗ atO d L (outN A 9 g) -∗ WP d L (k ⟨⟩) Q)
      -∗ WP d L (k0_part24 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (cntV A 1 (by decide)) >>= k) Q) := by
  rw [k0_part24_eq_skeleton]
  unfold k0_part24_skel
  simp only [Prog.lift, Prog.bind_op, Prog.bind_ret, Prog.pure_eq_ret, bind_assoc]
  iintro ⟨HA, HO⟩ Hk
  iapply (wp_row d L) $$ HA; iintro HA
  iapply (wp_mean d L 4 (by decide) (chk_mean 4 (by decide))) $$ HO; iintro HO
  iapply (wp_row d L) $$ HA; iintro HA
  iapply (wp_mean d L 5 (by decide) (chk_mean 5 (by decide))) $$ HO; iintro HO
  iapply (wp_row d L) $$ HA; iintro HA
  iapply (wp_row d L) $$ HA; iintro HA
  iapply (wp_mean d L 6 (by decide) (chk_mean 6 (by decide))) $$ HO; iintro HO
  iapply (wp_row d L) $$ HA; iintro HA
  iapply (wp_mean d L 7 (by decide) (chk_mean 7 (by decide))) $$ HO; iintro HO
  iapply (wp_row d L) $$ HA; iintro HA
  iapply (wp_mean d L 8 (by decide) (chk_mean 8 (by decide))) $$ HO; iintro HO
  iapply Hk
  isplitl [HA]
  · iexact HA
  · iexact HO

theorem part25 {α : Type} {Q : α → sProp 𝕄} (A : Vec F S40x16 .f32) (g : Vec F S16x24 .f32)
    {k : (Σ' (_ : FVec F S16 .f32), FVec F S16 .f32) → Prog (TpuEff nD τ sig (Elt F) Λ₀ (.scVector (cV L) (jV L))) α} :
    (iprop(atA d L A ∗ atO d L (outN A 9 g)) : sProp 𝕄) ⊢ iprop((atA d L A ∗ atO d L (outN A 13 g) -∗ WP d L (k ⟨(cntV A 4 (by decide)), (meanV A 13 (by decide))⟩) Q)
      -∗ WP d L (k0_part25 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes >>= k) Q) := by
  rw [k0_part25_eq_skeleton]
  unfold k0_part25_skel
  simp only [Prog.lift, Prog.bind_op, Prog.bind_ret, Prog.pure_eq_ret, bind_assoc]
  iintro ⟨HA, HO⟩ Hk
  iapply (wp_row d L) $$ HA; iintro HA
  iapply (wp_row d L) $$ HA; iintro HA
  iapply (wp_mean d L 9 (by decide) (chk_mean 9 (by decide))) $$ HO; iintro HO
  iapply (wp_row d L) $$ HA; iintro HA
  iapply (wp_mean d L 10 (by decide) (chk_mean 10 (by decide))) $$ HO; iintro HO
  iapply (wp_row d L) $$ HA; iintro HA
  iapply (wp_mean d L 11 (by decide) (chk_mean 11 (by decide))) $$ HO; iintro HO
  iapply (wp_row d L) $$ HA; iintro HA
  iapply (wp_row d L) $$ HA; iintro HA
  iapply (wp_mean d L 12 (by decide) (chk_mean 12 (by decide))) $$ HO; iintro HO
  iapply (wp_row d L) $$ HA; iintro HA
  iapply Hk
  isplitl [HA]
  · iexact HA
  · iexact HO

theorem part26 {α : Type} {Q : α → sProp 𝕄} (A : Vec F S40x16 .f32) (g : Vec F S16x24 .f32)
    {k : (FVec F S16 .f32) → Prog (TpuEff nD τ sig (Elt F) Λ₀ (.scVector (cV L) (jV L))) α} :
    (iprop(atA d L A ∗ atO d L (outN A 13 g)) : sProp 𝕄) ⊢ iprop((atA d L A ∗ atO d L (outN A 18 g) -∗ WP d L (k (cntV A 6 (by decide))) Q)
      -∗ WP d L (k0_part26 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (cntV A 4 (by decide)) (meanV A 13 (by decide)) >>= k) Q) := by
  rw [k0_part26_eq_skeleton]
  unfold k0_part26_skel
  simp only [Prog.lift, Prog.bind_op, Prog.bind_ret, Prog.pure_eq_ret, bind_assoc]
  iintro ⟨HA, HO⟩ Hk
  iapply (wp_mean d L 13 (by decide) (chk_mean 13 (by decide))) $$ HO; iintro HO
  iapply (wp_row d L) $$ HA; iintro HA
  iapply (wp_mean d L 14 (by decide) (chk_mean 14 (by decide))) $$ HO; iintro HO
  iapply (wp_row d L) $$ HA; iintro HA
  iapply (wp_row d L) $$ HA; iintro HA
  iapply (wp_mean d L 15 (by decide) (chk_mean 15 (by decide))) $$ HO; iintro HO
  iapply (wp_row d L) $$ HA; iintro HA
  iapply (wp_mean d L 16 (by decide) (chk_mean 16 (by decide))) $$ HO; iintro HO
  iapply (wp_row d L) $$ HA; iintro HA
  iapply (wp_mean d L 17 (by decide) (chk_mean 17 (by decide))) $$ HO; iintro HO
  iapply (wp_row d L) $$ HA; iintro HA
  iapply Hk
  isplitl [HA]
  · iexact HA
  · iexact HO

theorem part27 {α : Type} {Q : α → sProp 𝕄} (A : Vec F S40x16 .f32) (g : Vec F S16x24 .f32)
    {k : (FVec F S16 .f32) → Prog (TpuEff nD τ sig (Elt F) Λ₀ (.scVector (cV L) (jV L))) α} :
    (iprop(atA d L A ∗ atO d L (outN A 18 g)) : sProp 𝕄) ⊢ iprop((atA d L A ∗ atO d L (outN A 23 g) -∗ WP d L (k (cntV A 7 (by decide))) Q)
      -∗ WP d L (k0_part27 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (cntV A 6 (by decide)) >>= k) Q) := by
  rw [k0_part27_eq_skeleton]
  unfold k0_part27_skel
  simp only [Prog.lift, Prog.bind_op, Prog.bind_ret, Prog.pure_eq_ret, bind_assoc]
  iintro ⟨HA, HO⟩ Hk
  iapply (wp_row d L) $$ HA; iintro HA
  iapply (wp_mean d L 18 (by decide) (chk_mean 18 (by decide))) $$ HO; iintro HO
  iapply (wp_row d L) $$ HA; iintro HA
  iapply (wp_mean d L 19 (by decide) (chk_mean 19 (by decide))) $$ HO; iintro HO
  iapply (wp_row d L) $$ HA; iintro HA
  iapply (wp_mean d L 20 (by decide) (chk_mean 20 (by decide))) $$ HO; iintro HO
  iapply (wp_row d L) $$ HA; iintro HA
  iapply (wp_row d L) $$ HA; iintro HA
  iapply (wp_mean d L 21 (by decide) (chk_mean 21 (by decide))) $$ HO; iintro HO
  iapply (wp_row d L) $$ HA; iintro HA
  iapply (wp_mean d L 22 (by decide) (chk_mean 22 (by decide))) $$ HO; iintro HO
  iapply Hk
  isplitl [HA]
  · iexact HA
  · iexact HO

/-! ## The halves' middles: the last rows zeroed, the neighbours, the first means -/

theorem part13 {α : Type} {Q : α → sProp 𝕄} (X : Vec F S16x2048 .f32) (A : Vec F S40x16 .f32) (B : Vec F S16x128 .f32) (g : Vec F S16x24 .f32)
    {k : (Σ' (_ : FVec F S16 .f32), BitVec 32) → Prog (TpuEff nD τ sig (Elt F) Λ₀ (.scVector (cV L) (jV L))) α} :
    (iprop(atX d L slot0 X ∗ atA d L (zeroRows 33 A) ∗ atD d L B ∗ atO d L g) : sProp 𝕄)
      ⊢ iprop((atX d L slot0 X ∗ atA d L (accN X (zeroRows 36 A) 128) ∗ atD d L (dirN X B 128)
          ∗ atO d L (outN (accN X (zeroRows 36 A) 128) 2 g) -∗ WP d L (k ⟨meanV (accN X (zeroRows 36 A) 128) 2 (by decide), 2#32⟩) Q)
      -∗ WP d L (k0_part13 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) (k0_pay106 (F := F)) k0_pay107 k0_pay108 k0_pay109 k0_pay110 k0_pay111 k0_pay112 k0_pay113 k0_pay114 k0_pay115 k0_pay116 k0_pay117 k0_pay118 k0_pay119 k0_pay120 k0_pay121 k0_pay122 >>= k) Q) := by
  rw [k0_part13_eq_skeleton]
  unfold k0_part13_skel
  simp only [Prog.lift, Prog.bind_op, Prog.bind_ret, Prog.pure_eq_ret, bind_assoc]
  iintro ⟨HX, HA, HB, HO⟩ Hk
  iterate 3 (iapply (wp_zero d L) $$ HA; iintro HA)
  iapply (t2_run d L X (zeroRows 36 A) B) $$ [HX HA HB]
  · isplitl [HX]
    · iexact HX
    isplitl [HA]
    · iexact HA
    · iexact HB
  iintro ⟨HX, HA, HB⟩
  rw [← outN_zero (accN X (zeroRows 36 A) 128) g]
  iapply (wp_row d L) $$ HA; iintro HA
  iapply (wp_row d L) $$ HA; iintro HA
  iapply (wp_mean d L 0 (by decide) (chk_mean 0 (by decide))) $$ HO; iintro HO
  iapply (wp_row d L) $$ HA; iintro HA
  iapply (wp_mean d L 1 (by decide) (chk_mean 1 (by decide))) $$ HO; iintro HO
  iapply (wp_row d L) $$ HA; iintro HA
  rw [outN_zero]
  iapply Hk
  isplitl [HX]
  · iexact HX
  isplitl [HA]
  · iexact HA
  isplitl [HB]
  · iexact HB
  · iexact HO

theorem part23 {α : Type} {Q : α → sProp 𝕄} (X : Vec F S16x2048 .f32) (A : Vec F S40x16 .f32) (B : Vec F S16x128 .f32) (g : Vec F S16x24 .f32)
    {k : FVec F S16 .f32 → Prog (TpuEff nD τ sig (Elt F) Λ₀ (.scVector (cV L) (jV L))) α} :
    (iprop(atX d L slot1 X ∗ atA d L A ∗ atD d L B ∗ atO d L g) : sProp 𝕄)
      ⊢ iprop((atX d L slot1 X ∗ atA d L (accN X A 128) ∗ atD d L (dirN X B 128)
          ∗ atO d L (outN (accN X A 128) 4 g) -∗ WP d L (k (cntV (accN X A 128) 1 (by decide))) Q)
      -∗ WP d L (k0_part23 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 lanes (k0_pay105 (F := F)) k0_pay107 k0_pay108 k0_pay109 k0_pay110 k0_pay111 k0_pay112 k0_pay113 k0_pay114 k0_pay115 k0_pay116 k0_pay117 k0_pay118 k0_pay119 k0_pay120 k0_pay121 k0_pay122 0#32 128#32 >>= k) Q) := by
  rw [k0_part23_eq_skeleton]
  unfold k0_part23_skel
  simp only [Prog.lift, Prog.bind_op, Prog.bind_ret, Prog.pure_eq_ret, bind_assoc]
  iintro ⟨HX, HA, HB, HO⟩ Hk
  iapply (t3_run d L X A B) $$ [HX HA HB]
  · isplitl [HX]
    · iexact HX
    isplitl [HA]
    · iexact HA
    · iexact HB
  iintro ⟨HX, HA, HB⟩
  rw [← outN_zero (accN X A 128) g]
  iapply (wp_row d L) $$ HA; iintro HA
  iapply (wp_row d L) $$ HA; iintro HA
  iapply (wp_mean d L 0 (by decide) (chk_mean 0 (by decide))) $$ HO; iintro HO
  iapply (wp_row d L) $$ HA; iintro HA
  iapply (wp_mean d L 1 (by decide) (chk_mean 1 (by decide))) $$ HO; iintro HO
  iapply (wp_row d L) $$ HA; iintro HA
  iapply (wp_mean d L 2 (by decide) (chk_mean 2 (by decide))) $$ HO; iintro HO
  iapply (wp_row d L) $$ HA; iintro HA
  iapply (wp_row d L) $$ HA; iintro HA
  iapply (wp_mean d L 3 (by decide) (chk_mean 3 (by decide))) $$ HO; iintro HO
  rw [outN_zero]
  iapply Hk
  isplitl [HX]
  · iexact HX
  isplitl [HA]
  · iexact HA
  isplitl [HB]
  · iexact HB
  · iexact HO

end Cert.Proof
-- ==== Proof.Dma.lean ====
module

public import proofs.«01_k».proof.Proof.Parts

@[expose] public section

/-! The copies of a task: a block's rows fetched into a slot, the two results of a block written back. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

/-! ## Rows of the arrays -/

/-- The rows `o ≤ r < o + k`. -/
def rows (n o k : Nat) : Finset (⟨2, ![16384, n]⟩ : Shape).Idx := Finset.univ.filter fun x => o ≤ (x 0).val ∧ (x 0).val < o + k

theorem mem_rows {n o k : Nat} {x : (⟨2, ![16384, n]⟩ : Shape).Idx} : x ∈ rows n o k ↔ o ≤ (x 0).val ∧ (x 0).val < o + k := by
  simp [rows]

theorem rows_subset {n o k o' k' : Nat} (h : o' ≤ o) (h' : o + k ≤ o' + k') : rows n o k ⊆ rows n o' k' := fun x hx => by
  rw [mem_rows] at hx ⊢; omega

/-- The sixteen rows from row `o`. -/
def blk (V0 : Vec F S16384x2048 .f32) (o : Nat) : Vec F S16x2048 .f32 :=
  fun y => V0 (ix2 (m := 16384) (n := 2048) ⟨(o + (y 0).val) % 16384, Nat.mod_lt _ (by decide)⟩ (y 1))

/-- `f` with the sixteen rows from row `o` set to `A`. -/
def putRows {n : Nat} (o : Nat) (A : Vec F ⟨2, ![16, n]⟩ .f32) (f : Vec F ⟨2, ![16384, n]⟩ .f32) : Vec F ⟨2, ![16384, n]⟩ .f32 :=
  fun x => if h : o ≤ (x 0).val ∧ (x 0).val < o + 16 then A (ix2 (m := 16) (n := n) ⟨(x 0).val - o, by omega⟩ (x 1)) else f x

/-! ## Slices of sixteen rows -/

abbrev nR (off : Fin 2 → Nat) (inb : ∀ a, off a + S16x2048.size a ≤ S16384x2048.size a) : Rect S16384x2048 :=
  Rect.unit (s := S16384x2048) off S16x2048.size inb
abbrev cR (off : Fin 2 → Nat) (inb : ∀ a, off a + S16x24.size a ≤ S16384x24.size a) : Rect S16384x24 :=
  Rect.unit (s := S16384x24) off S16x24.size inb
abbrev fR (off : Fin 2 → Nat) (inb : ∀ a, off a + S16x128.size a ≤ S16384x128.size a) : Rect S16384x128 :=
  Rect.unit (s := S16384x128) off S16x128.size inb
abbrev nS (off : Fin 2 → Nat) (inb : ∀ a, off a + S16x2048.size a ≤ S16384x2048.size a) : Memref sig .scVector .hbm S16x2048 .f32 := nW.slice (nR off inb) (fun _ => rfl)
abbrev cS (off : Fin 2 → Nat) (inb : ∀ a, off a + S16x24.size a ≤ S16384x24.size a) : Memref sig .scVector .hbm S16x24 .f32 := cW.slice (cR off inb) (fun _ => rfl)
abbrev fS (off : Fin 2 → Nat) (inb : ∀ a, off a + S16x128.size a ≤ S16384x128.size a) : Memref sig .scVector .hbm S16x128 .f32 := fW.slice (fR off inb) (fun _ => rfl)

/-- The flattened neighbours on the rows `I`, the means, the directions. -/
abbrev atN (I : Finset S16384x2048.Idx) (f : Vec F S16384x2048 .f32) : sProp 𝕄 :=
  nW.view.loc (thr d L) ↦[(I : Finset (Idx (nW.view.loc (thr d L))))]{fullShare} (f : Buf (Elt F) (nW.view.loc (thr d L)))
abbrev atC (I : Finset S16384x24.Idx) (f : Vec F S16384x24 .f32) : sProp 𝕄 :=
  cW.view.loc (thr d L) ↦[(I : Finset (Idx (cW.view.loc (thr d L))))]{fullShare} (f : Buf (Elt F) (cW.view.loc (thr d L)))
abbrev atF (I : Finset S16384x128.Idx) (f : Vec F S16384x128 .f32) : sProp 𝕄 :=
  fW.view.loc (thr d L) ↦[(I : Finset (Idx (fW.view.loc (thr d L))))]{fullShare} (f : Buf (Elt F) (fW.view.loc (thr d L)))

theorem nR_set {off : Fin 2 → Nat} {inb} {o : Nat} (ho : off = ![o, 0]) : (nR off inb).set = rows 2048 o 16 := by
  subst ho
  ext x
  rw [Rect.mem_set_unit, mem_rows]
  have h1 : (x 1).val < 2048 := (x 1).isLt
  constructor
  · intro h; exact h 0
  · intro h a
    match a with
    | ⟨0, _⟩ => exact h
    | ⟨1, _⟩ => exact ⟨Nat.zero_le _, h1.trans_eq (Nat.zero_add _).symm⟩

theorem nS_set {off : Fin 2 → Nat} {inb} {o : Nat} (ho : off = ![o, 0]) : (nS off inb).view.set = rows 2048 o 16 :=
  (View.set_slice_whole _ _).trans (nR_set ho)

theorem nR_emb {o : Nat} {inb} (x : S16x2048.Idx) (h : o + (x 0).val < 16384) :
    (nR ![o, 0] inb).emb x = ix2 (m := 16384) (n := 2048) ⟨o + (x 0).val, h⟩ (x 1) := by
  funext a
  apply Fin.ext
  rw [Rect.emb_apply]
  match a with
  | ⟨0, _⟩ => show o + 1 * (x 0).val = o + (x 0).val; omega
  | ⟨1, _⟩ => show 0 + 1 * (x 1).val = (x 1).val; omega

theorem cR_set {off : Fin 2 → Nat} {inb} {o : Nat} (ho : off = ![o, 0]) : (cR off inb).set = rows 24 o 16 := by
  subst ho
  ext x
  rw [Rect.mem_set_unit, mem_rows]
  have h1 : (x 1).val < 24 := (x 1).isLt
  constructor
  · intro h; exact h 0
  · intro h a
    match a with
    | ⟨0, _⟩ => exact h
    | ⟨1, _⟩ => exact ⟨Nat.zero_le _, h1.trans_eq (Nat.zero_add _).symm⟩

theorem cS_set {off : Fin 2 → Nat} {inb} {o : Nat} (ho : off = ![o, 0]) : (cS off inb).view.set = rows 24 o 16 :=
  (View.set_slice_whole _ _).trans (cR_set ho)

theorem cR_emb {o : Nat} {inb} (x : S16x24.Idx) (h : o + (x 0).val < 16384) :
    (cR ![o, 0] inb).emb x = ix2 (m := 16384) (n := 24) ⟨o + (x 0).val, h⟩ (x 1) := by
  funext a
  apply Fin.ext
  rw [Rect.emb_apply]
  match a with
  | ⟨0, _⟩ => show o + 1 * (x 0).val = o + (x 0).val; omega
  | ⟨1, _⟩ => show 0 + 1 * (x 1).val = (x 1).val; omega

theorem fR_set {off : Fin 2 → Nat} {inb} {o : Nat} (ho : off = ![o, 0]) : (fR off inb).set = rows 128 o 16 := by
  subst ho
  ext x
  rw [Rect.mem_set_unit, mem_rows]
  have h1 : (x 1).val < 128 := (x 1).isLt
  constructor
  · intro h; exact h 0
  · intro h a
    match a with
    | ⟨0, _⟩ => exact h
    | ⟨1, _⟩ => exact ⟨Nat.zero_le _, h1.trans_eq (Nat.zero_add _).symm⟩

theorem fS_set {off : Fin 2 → Nat} {inb} {o : Nat} (ho : off = ![o, 0]) : (fS off inb).view.set = rows 128 o 16 :=
  (View.set_slice_whole _ _).trans (fR_set ho)

theorem fR_emb {o : Nat} {inb} (x : S16x128.Idx) (h : o + (x 0).val < 16384) :
    (fR ![o, 0] inb).emb x = ix2 (m := 16384) (n := 128) ⟨o + (x 0).val, h⟩ (x 1) := by
  funext a
  apply Fin.ext
  rw [Rect.emb_apply]
  match a with
  | ⟨0, _⟩ => show o + 1 * (x 0).val = o + (x 0).val; omega
  | ⟨1, _⟩ => show 0 + 1 * (x 1).val = (x 1).val; omega

theorem nS_read (V0 : Vec F S16384x2048 .f32) {off : Fin 2 → Nat} {inb} {o : Nat} (ho : off = ![o, 0]) :
    (nS off inb).view.read (Elt F) (V0 : Buf (Elt F) (nW.view.loc (thr d L))) = blk V0 o := by
  subst ho
  funext x
  have hx : (x 0).val < 16 := (x 0).isLt
  have hb : o + 16 ≤ 16384 := inb 0
  show V0 ((nR ![o, 0] inb).emb x) = _
  rw [nR_emb x (by omega)]
  unfold blk
  congr 2
  exact Fin.ext (Nat.mod_eq_of_lt (by omega)).symm

theorem cS_write (f : Vec F S16384x24 .f32) (A : Vec F S16x24 .f32) {off : Fin 2 → Nat} {inb} {o : Nat} (ho : off = ![o, 0]) :
    (cS off inb).view.write (Elt F) (f : Buf (Elt F) (cW.view.loc (thr d L))) A Finset.univ = putRows o A f := by
  subst ho
  have hb : o + 16 ≤ 16384 := inb 0
  funext j
  unfold putRows
  split
  next h =>
    have ej : (cS ![o, 0] inb).view.emb (ix2 (m := 16) (n := 24) ⟨(j 0).val - o, by omega⟩ (j 1)) = j := by
      refine (cR_emb (o := o) (inb := inb) (ix2 (m := 16) (n := 24) ⟨(j 0).val - o, by omega⟩ (j 1)) (by show o + ((j 0).val - o) < _; omega)).trans ?_
      refine Eq.trans ?_ (Shape.pair_eta j)
      congr 1
      exact Fin.ext (show o + ((j 0).val - o) = (j 0).val by omega)
    conv_lhs => rw [← ej]
    rw [View.write_emb_of_mem _ _ (Finset.mem_univ _)]
    rfl
  next h =>
    refine View.write_of_not_mem _ _ _ fun hm => h ?_
    have : j ∈ (cS ![o, 0] inb).view.set := hm
    rw [cS_set rfl, mem_rows] at this
    exact this

theorem fS_write (f : Vec F S16384x128 .f32) (A : Vec F S16x128 .f32) {off : Fin 2 → Nat} {inb} {o : Nat} (ho : off = ![o, 0]) :
    (fS off inb).view.write (Elt F) (f : Buf (Elt F) (fW.view.loc (thr d L))) A Finset.univ = putRows o A f := by
  subst ho
  have hb : o + 16 ≤ 16384 := inb 0
  funext j
  unfold putRows
  split
  next h =>
    have ej : (fS ![o, 0] inb).view.emb (ix2 (m := 16) (n := 128) ⟨(j 0).val - o, by omega⟩ (j 1)) = j := by
      refine (fR_emb (o := o) (inb := inb) (ix2 (m := 16) (n := 128) ⟨(j 0).val - o, by omega⟩ (j 1)) (by show o + ((j 0).val - o) < _; omega)).trans ?_
      refine Eq.trans ?_ (Shape.pair_eta j)
      congr 1
      exact Fin.ext (show o + ((j 0).val - o) = (j 0).val by omega)
    conv_lhs => rw [← ej]
    rw [View.write_emb_of_mem _ _ (Finset.mem_univ _)]
    rfl
  next h =>
    refine View.write_of_not_mem _ _ _ fun hm => h ?_
    have : j ∈ (fS ![o, 0] inb).view.set := hm
    rw [fS_set rfl, mem_rows] at this
    exact this

/-! ## A block fetched -/

/-- The rows `o … o + 15` on their way into slot `s` on semaphore `sm`, the rest of the rows `I` kept. -/
def inFlight (s : Memref sig .scVector .vmem S16x2048 .f32) (sm : DmaSem sig) (I : Finset S16384x2048.Idx) (V0 : Vec F S16384x2048 .f32) (o : Nat) :
    sProp 𝕄 :=
  iprop(Flight (EC (F := F)) (thr d L) (.dma sm) (none : HIx 1) s.view.dmaCredit iprop(atX d L s (blk V0 o) ∗ atN d L (rows 2048 o 16) V0)
    ∗ atN d L (I \ rows 2048 o 16) V0)

/-- What the task owes, its own waits apart. -/
def owing (O : CellTallies nD τ sig (HIx 1)) (W : Waits sig (HIx 1)) : sProp 𝕄 :=
  iprop(∃ W', ⌜∀ p ∈ W', p ∈ W ∨ p.2 = none⌝ ∗ owes (thr d L) O W')

/-- What a landed fetch leaves: the slot at the block, the block's rows unchanged. -/
theorem landed (s : Memref sig .scVector .vmem S16x2048 .f32) (V0 : Vec F S16384x2048 .f32) (g : Buf (Elt F) (s.view.loc (thr d L)))
    {o : Nat} {off : Fin 2 → Nat} {inb} (ho : off = ![o, 0]) :
    (iprop((s.view.loc (thr d L) ↦[s.view.set]{fullShare} (s.view.write (Elt F) g
        ((ReadAs.same : ReadAs (Elt F) _ _ _ _).apply ((nS off inb).view.read (Elt F) (V0 : Buf (Elt F) (nW.view.loc (thr d L))))) Finset.univ))
      ∗ ((nS off inb).view.loc (thr d L) ↦[(nS off inb).view.set]{fullShare} (V0 : Buf (Elt F) ((nS off inb).view.loc (thr d L))))) : sProp 𝕄)
      ⊢ iprop(atX d L s (blk V0 o) ∗ atN d L (rows 2048 o 16) V0) := by
  have e1 : s.view.read (Elt F) (s.view.write (Elt F) g
      ((ReadAs.same : ReadAs (Elt F) _ _ _ _).apply ((nS off inb).view.read (Elt F) (V0 : Buf (Elt F) (nW.view.loc (thr d L))))) Finset.univ) = blk V0 o :=
    (View.read_write_univ _ _).trans (nS_read V0 ho)
  have e2 : ((nS off inb).view.loc (thr d L) ↦[(nS off inb).view.set]{fullShare} (V0 : Buf (Elt F) ((nS off inb).view.loc (thr d L))) : sProp 𝕄)
      = atN d L (rows 2048 o 16) V0 :=
    congrArg (fun I => (nW.view.loc (thr d L) ↦[(I : Finset (Idx (nW.view.loc (thr d L))))]{fullShare} (V0 : Buf (Elt F) (nW.view.loc (thr d L))) : sProp 𝕄)) (nS_set ho)
  rw [e2]
  unfold atX
  iintro ⟨Hd, Hs⟩
  isplitl [Hd]
  · iexists _
    isplitr
    · ipureintro; exact e1
    · iexact Hd
  · iexact Hs

/-- A fetch sent. -/
theorem wp_send {α : Type} {Q : α → sProp 𝕄} (s : Memref sig .scVector .vmem S16x2048 .f32) (sm : DmaSem sig) (I : Finset S16384x2048.Idx)
    (V0 : Vec F S16384x2048 .f32) (X : Vec F S16x2048 .f32) {o : Nat} {off : Fin 2 → Nat} {inb} (ho : off = ![o, 0]) (hI : rows 2048 o 16 ⊆ I)
    {hs hd ht} {k : PUnit → Prog (TpuEff nD τ sig (Elt F) Λ₀ (.scVector (cV L) (jV L))) α} :
    (iprop(atN d L I V0 ∗ atX d L s X ∗ semVal (thr d L, .dma sm) 0) : sProp 𝕄)
      ⊢ iprop((inFlight d L s sm I V0 o -∗ WP d L (k ⟨⟩) Q)
        -∗ WP d L (.op (.enqueueDma (nS off inb) (.here s) (.dma sm) hs hd ht) k) Q) := by
  iintro ⟨HN, HX, Hv⟩ Hk
  unfold atX
  icases HX with ⟨%g, -, HX⟩
  ihave HN' := ((pointsTo_split_subset (Val := Elt F) hI).1) $$ HN
  icases HN' with ⟨Hb, Hr⟩
  ihave Hb' := (Entails.of_eq (congrArg (fun I => (nW.view.loc (thr d L) ↦[(I : Finset (Idx (nW.view.loc (thr d L))))]{fullShare} (V0 : Buf (Elt F) (nW.view.loc (thr d L))) : sProp 𝕄))
    (nS_set (inb := inb) ho).symm)) $$ Hb
  iapply (Transfers.wp_dmaLocal (EC (F := F)) 𝒱₀ (thr d L) none (src := nS off inb) (dst := s) (Sd := s.view.set) (none : HIx 1) s.view.dmaCredit rfl
    (View.dmaCredit_pos _ (show 0 < S16x2048.numel by decide)) (Finset.Subset.refl _)) $$ [Hb' HX Hv]
  · isplitl [Hb']
    · iexact Hb'
    isplitl [HX]
    · iexact HX
    · iexact Hv
  iintro Hfl
  iapply Hk
  unfold inFlight
  isplitl [Hfl]
  · iapply (Flight_mono (EC (F := F)) (thr d L) (landed d L s V0 g ho)) $$ Hfl
  · iexact Hr

theorem owing_insert {W W' : Waits sig (HIx 1)} (sm : SemLoc sig) (h : ∀ p ∈ W', p ∈ W ∨ p.2 = none) :
    ∀ p ∈ insert (sm, (none : HIx 1)) W', p ∈ W ∨ p.2 = none := fun p hp => by
  rcases Finset.mem_insert.mp hp with rfl | hp
  · exact .inr rfl
  · exact h p hp

/-- A fetch awaited. -/
theorem wp_arrive {α : Type} {Q : α → sProp 𝕄} (s : Memref sig .scVector .vmem S16x2048 .f32) (sm : DmaSem sig) (I : Finset S16384x2048.Idx)
    (V0 : Vec F S16384x2048 .f32) {o : Nat} (hI : rows 2048 o 16 ⊆ I) {O : CellTallies nD τ sig (HIx 1)} {W : Waits sig (HIx 1)} (hO : ∀ g, O g none = 0)
    {w : Memref sig .scVector .hbm S16x2048 .f32} {hs hd} {k : PUnit → Prog (TpuEff nD τ sig (Elt F) Λ₀ (.scVector (cV L) (jV L))) α} :
    (iprop(levAts (K (F := F)).L (K (F := F)).lev ∗ inFlight d L s sm I V0 o ∗ owing d L O W) : sProp 𝕄)
      ⊢ iprop((atN d L I V0 ∗ atX d L s (blk V0 o) ∗ semVal (thr d L, .dma sm) 0 ∗ owing d L O W -∗ WP d L (k ⟨⟩) Q)
        -∗ WP d L (.op (.waitDma2 sm w s hs hd) k) Q) := by
  unfold inFlight owing
  iintro ⟨#Hlv, ⟨Hfl, Hr⟩, %W', %hW, HO⟩ Hk
  iapply (Transfers.wp_waitLocalO (EC (F := F)) 𝒱₀ (thr d L) none (none : HIx 1) (dstw := s) rfl) $$ [Hfl HO]
  · isplitl [Hfl]
    · iexact Hfl
    isplitl [HO]
    · iexact HO
    iapply ((K (F := F)).mayWait_none (SemLoc.dma sm) hO)
    iexact Hlv
  iintro ⟨⟨HX, Hb⟩, Hv, HO⟩
  iapply Hk
  isplitl [Hb Hr]
  · iapply ((pointsTo_split_subset (Val := Elt F) hI).2)
    isplitl [Hb]
    · iexact Hb
    · iexact Hr
  isplitl [HX]
  · iexact HX
  isplitl [Hv]
  · iexact Hv
  iexists _
  isplitr
  · ipureintro; exact owing_insert (SemLoc.dma sm) hW
  · iexact HO

/-- A block's means written back. -/
theorem wp_putC {α : Type} {Q : α → sProp 𝕄} (sm : DmaSem sig) (I : Finset S16384x24.Idx) (f : Vec F S16384x24 .f32) (A : Vec F S16x24 .f32)
    {o : Nat} {off : Fin 2 → Nat} {inb} (ho : off = ![o, 0]) (hI : rows 24 o 16 ⊆ I) {O : CellTallies nD τ sig (HIx 1)} {W : Waits sig (HIx 1)}
    (hO : ∀ g, O g none = 0) {hs hd ht hs' hd'} {k : PUnit → Prog (TpuEff nD τ sig (Elt F) Λ₀ (.scVector (cV L) (jV L))) α} :
    (iprop(levAts (K (F := F)).L (K (F := F)).lev ∗ atO d L A ∗ atC d L I f ∗ semVal (thr d L, .dma sm) 0 ∗ owing d L O W) : sProp 𝕄)
      ⊢ iprop((atO d L A ∗ atC d L I (putRows o A f) ∗ semVal (thr d L, .dma sm) 0 ∗ owing d L O W -∗ WP d L (k ⟨⟩) Q)
        -∗ WP d L (.op (.enqueueDma oW (.here (cS off inb)) (.dma sm) hs hd ht) fun _ =>
          .op (.waitDma2 sm oW (cS off inb) hs' hd') k) Q) := by
  unfold owing
  iintro ⟨#Hlv, HA, Hf, Hv, %W', %hW, HO⟩ Hk
  have hsub : (cS off inb).view.set ⊆ (I : Finset (Idx (cW.view.loc (thr d L)))) := by rw [cS_set ho]; exact hI
  have hU : (oW.view.set : Finset (Idx (oW.view.loc (thr d L)))) = Finset.univ := View.set_whole _
  ihave HA' := (Entails.of_eq (congrArg (fun I => (oW.view.loc (thr d L) ↦[(I : Finset (Idx (oW.view.loc (thr d L))))]{fullShare} (A : Buf (Elt F) (oW.view.loc (thr d L))) : sProp 𝕄)) hU.symm)) $$ HA
  iapply (Transfers.wp_dmaLocal (EC (F := F)) 𝒱₀ (thr d L) none (src := oW) (dst := cS off inb) (Sd := I) (none : HIx 1) (cS off inb).view.dmaCredit rfl
    (View.dmaCredit_pos _ (show 0 < S16x24.numel by decide)) hsub) $$ [HA' Hf Hv]
  · isplitl [HA']
    · iexact HA'
    isplitl [Hf]
    · iexact Hf
    · iexact Hv
  iintro Hfl
  iapply (Transfers.wp_waitLocalO (EC (F := F)) 𝒱₀ (thr d L) none (none : HIx 1) (dstw := cS off inb) rfl) $$ [Hfl HO]
  · isplitl [Hfl]
    · iexact Hfl
    isplitl [HO]
    · iexact HO
    iapply ((K (F := F)).mayWait_none (SemLoc.dma sm) hO)
    iexact Hlv
  iintro ⟨⟨Hf, HA⟩, Hv, HO⟩
  iapply Hk
  isplitl [HA]
  · iapply (Entails.of_eq (congrArg (fun I => (oW.view.loc (thr d L) ↦[(I : Finset (Idx (oW.view.loc (thr d L))))]{fullShare} (A : Buf (Elt F) (oW.view.loc (thr d L))) : sProp 𝕄)) hU)) $$ HA
  isplitl [Hf]
  · have e : (cS off inb).view.write (Elt F) (f : Buf (Elt F) (cW.view.loc (thr d L))) ((ReadAs.same : ReadAs (Elt F) _ _ _ _).apply (oW.view.read (Elt F) (A : Buf (Elt F) (oW.view.loc (thr d L))))) Finset.univ = putRows o A f :=
      cS_write f A ho
    rw [← e]
    iexact Hf
  isplitl [Hv]
  · iexact Hv
  iexists _
  isplitr
  · ipureintro; exact owing_insert (SemLoc.dma sm) hW
  · iexact HO

/-- A block's directions written back. -/
theorem wp_putF {α : Type} {Q : α → sProp 𝕄} (sm : DmaSem sig) (I : Finset S16384x128.Idx) (f : Vec F S16384x128 .f32) (A : Vec F S16x128 .f32)
    {o : Nat} {off : Fin 2 → Nat} {inb} (ho : off = ![o, 0]) (hI : rows 128 o 16 ⊆ I) {O : CellTallies nD τ sig (HIx 1)} {W : Waits sig (HIx 1)}
    (hO : ∀ g, O g none = 0) {hs hd ht hs' hd'} {k : PUnit → Prog (TpuEff nD τ sig (Elt F) Λ₀ (.scVector (cV L) (jV L))) α} :
    (iprop(levAts (K (F := F)).L (K (F := F)).lev ∗ atD d L A ∗ atF d L I f ∗ semVal (thr d L, .dma sm) 0 ∗ owing d L O W) : sProp 𝕄)
      ⊢ iprop((atD d L A ∗ atF d L I (putRows o A f) ∗ semVal (thr d L, .dma sm) 0 ∗ owing d L O W -∗ WP d L (k ⟨⟩) Q)
        -∗ WP d L (.op (.enqueueDma dW (.here (fS off inb)) (.dma sm) hs hd ht) fun _ =>
          .op (.waitDma2 sm dW (fS off inb) hs' hd') k) Q) := by
  unfold owing
  iintro ⟨#Hlv, HA, Hf, Hv, %W', %hW, HO⟩ Hk
  have hsub : (fS off inb).view.set ⊆ (I : Finset (Idx (fW.view.loc (thr d L)))) := by rw [fS_set ho]; exact hI
  have hU : (dW.view.set : Finset (Idx (dW.view.loc (thr d L)))) = Finset.univ := View.set_whole _
  ihave HA' := (Entails.of_eq (congrArg (fun I => (dW.view.loc (thr d L) ↦[(I : Finset (Idx (dW.view.loc (thr d L))))]{fullShare} (A : Buf (Elt F) (dW.view.loc (thr d L))) : sProp 𝕄)) hU.symm)) $$ HA
  iapply (Transfers.wp_dmaLocal (EC (F := F)) 𝒱₀ (thr d L) none (src := dW) (dst := fS off inb) (Sd := I) (none : HIx 1) (fS off inb).view.dmaCredit rfl
    (View.dmaCredit_pos _ (show 0 < S16x128.numel by decide)) hsub) $$ [HA' Hf Hv]
  · isplitl [HA']
    · iexact HA'
    isplitl [Hf]
    · iexact Hf
    · iexact Hv
  iintro Hfl
  iapply (Transfers.wp_waitLocalO (EC (F := F)) 𝒱₀ (thr d L) none (none : HIx 1) (dstw := fS off inb) rfl) $$ [Hfl HO]
  · isplitl [Hfl]
    · iexact Hfl
    isplitl [HO]
    · iexact HO
    iapply ((K (F := F)).mayWait_none (SemLoc.dma sm) hO)
    iexact Hlv
  iintro ⟨⟨Hf, HA⟩, Hv, HO⟩
  iapply Hk
  isplitl [HA]
  · iapply (Entails.of_eq (congrArg (fun I => (dW.view.loc (thr d L) ↦[(I : Finset (Idx (dW.view.loc (thr d L))))]{fullShare} (A : Buf (Elt F) (dW.view.loc (thr d L))) : sProp 𝕄)) hU)) $$ HA
  isplitl [Hf]
  · have e : (fS off inb).view.write (Elt F) (f : Buf (Elt F) (fW.view.loc (thr d L))) ((ReadAs.same : ReadAs (Elt F) _ _ _ _).apply (dW.view.read (Elt F) (A : Buf (Elt F) (dW.view.loc (thr d L))))) Finset.univ = putRows o A f :=
      fS_write f A ho
    rw [← e]
    iexact Hf
  isplitl [Hv]
  · iexact Hv
  iexists _
  isplitr
  · ipureintro; exact owing_insert (SemLoc.dma sm) hW
  · iexact HO

end Cert.Proof
-- ==== Proof.Tile.lean ====
module

public import proofs.«01_k».proof.Proof.Dma

@[expose] public section

/-! One task, run: its sixteen trips of two blocks, each block fetched, binned and written back. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

/-! ## Where the blocks lie -/

/-- The task's first row. -/
def base : Nat := ((L 1).val * 2 + (L 0).val) * 512

theorem base_le : base L + 512 ≤ 16384 := by
  have h0 : (L 0).val < 2 := (L 0).isLt
  have h1 : (L 1).val < 16 := (L 1).isLt
  unfold base; omega

theorem off1 : k0_off1 L = ![base L, 0] := by
  have h0 : (L 0).val < 2 := (L 0).isLt
  have h1 : (L 1).val < 16 := (L 1).isLt
  unfold k0_off1 base
  simp only [Scalar.addi, Scalar.muli, IntOp.addi, IntOp.muli, BitVec.toNat_add, BitVec.toNat_mul, BitVec.toNat_ofNat]
  congr 1
  omega

theorem off2 (t : Fin k0_t1_loop.trips) : k0_off2 L t = ![base L + 32 * t.val, 0] := by
  have h0 : (L 0).val < 2 := (L 0).isLt
  have h1 : (L 1).val < 16 := (L 1).isLt
  have ht : t.val < 16 := t.isLt
  unfold k0_off2 base
  simp only [Scf.iv, Scalar.addi, Scalar.muli, IntOp.addi, IntOp.muli, BitVec.toNat_add, BitVec.toNat_mul, BitVec.toNat_ofNat]
  congr 1
  omega

theorem off4 (t : Fin k0_t1_loop.trips) : k0_off4 L t = ![base L + 32 * t.val, 0] := by
  have h0 : (L 0).val < 2 := (L 0).isLt
  have h1 : (L 1).val < 16 := (L 1).isLt
  have ht : t.val < 16 := t.isLt
  unfold k0_off4 base
  simp only [Scf.iv, Scalar.addi, Scalar.muli, IntOp.addi, IntOp.muli, BitVec.toNat_add, BitVec.toNat_mul, BitVec.toNat_ofNat]
  congr 1
  omega

theorem off5 (t : Fin k0_t1_loop.trips) : k0_off5 L t = ![base L + 32 * t.val, 0] := by
  have h0 : (L 0).val < 2 := (L 0).isLt
  have h1 : (L 1).val < 16 := (L 1).isLt
  have ht : t.val < 16 := t.isLt
  unfold k0_off5 base
  simp only [Scf.iv, Scalar.addi, Scalar.muli, IntOp.addi, IntOp.muli, BitVec.toNat_add, BitVec.toNat_mul, BitVec.toNat_ofNat]
  congr 1
  omega

theorem off3 (t : Fin k0_t1_loop.trips) : k0_off3 L t = ![base L + 32 * t.val + 16, 0] := by
  have h0 : (L 0).val < 2 := (L 0).isLt
  have h1 : (L 1).val < 16 := (L 1).isLt
  have ht : t.val < 16 := t.isLt
  unfold k0_off3 base
  simp only [Scf.iv, Scalar.addi, Scalar.muli, IntOp.addi, IntOp.muli, BitVec.toNat_add, BitVec.toNat_mul, BitVec.toNat_ofNat]
  congr 1
  omega

theorem off6 (t : Fin k0_t1_loop.trips) : k0_off6 L t = ![base L + 32 * t.val + 16, 0] := by
  have h0 : (L 0).val < 2 := (L 0).isLt
  have h1 : (L 1).val < 16 := (L 1).isLt
  have ht : t.val < 16 := t.isLt
  unfold k0_off6 base
  simp only [Scf.iv, Scalar.addi, Scalar.muli, IntOp.addi, IntOp.muli, BitVec.toNat_add, BitVec.toNat_mul, BitVec.toNat_ofNat]
  congr 1
  omega

theorem off8 (t : Fin k0_t1_loop.trips) : k0_off8 L t = ![base L + 32 * t.val + 16, 0] := by
  have h0 : (L 0).val < 2 := (L 0).isLt
  have h1 : (L 1).val < 16 := (L 1).isLt
  have ht : t.val < 16 := t.isLt
  unfold k0_off8 base
  simp only [Scf.iv, Scalar.addi, Scalar.muli, IntOp.addi, IntOp.muli, BitVec.toNat_add, BitVec.toNat_mul, BitVec.toNat_ofNat]
  congr 1
  omega

theorem off9 (t : Fin k0_t1_loop.trips) : k0_off9 L t = ![base L + 32 * t.val + 16, 0] := by
  have h0 : (L 0).val < 2 := (L 0).isLt
  have h1 : (L 1).val < 16 := (L 1).isLt
  have ht : t.val < 16 := t.isLt
  unfold k0_off9 base
  simp only [Scf.iv, Scalar.addi, Scalar.muli, IntOp.addi, IntOp.muli, BitVec.toNat_add, BitVec.toNat_mul, BitVec.toNat_ofNat]
  congr 1
  omega

theorem off7 (t : Fin k0_t1_loop.trips) : k0_off7 L t = ![base L + 32 * (t.val + 1), 0] := by
  have h0 : (L 0).val < 2 := (L 0).isLt
  have h1 : (L 1).val < 16 := (L 1).isLt
  have ht : t.val < 16 := t.isLt
  unfold k0_off7 base
  simp only [Scf.iv, Scalar.addi, Scalar.muli, IntOp.addi, IntOp.muli, BitVec.toNat_add, BitVec.toNat_mul, BitVec.toNat_ofNat]
  congr 1
  omega

theorem cond1 (t : Fin k0_t1_loop.trips) : k0_cond1 t = 1#1 ↔ t.val + 1 < 16 := by
  have ht : t.val < 16 := t.isLt
  generalize hn : t.val = n at ht
  have : k0_cond1 t = Scalar.cmpi .ne (Scalar.extui (Scalar.cmpi .slt (Scalar.addi (Scalar.muli 2#32 (Scalar.addi 0#32 (Scalar.muli (BitVec.ofNat 32 n) 1#32))) 2#32) 32#32)) 0#32 := by
    rw [← hn]; rfl
  rw [this]
  exact (by decide : ∀ n, n < 16 → (Scalar.cmpi .ne (Scalar.extui (Scalar.cmpi .slt (Scalar.addi (Scalar.muli 2#32 (Scalar.addi 0#32 (Scalar.muli (BitVec.ofNat 32 n) 1#32))) 2#32) 32#32)) 0#32 = 1#1 ↔ n + 1 < 16)) n ht

/-! ## The values -/

theorem addAt_congr (v : IVec S16 32) (w : FVec F S16 .f32) (mask : IVec S16 1) {A B : Vec F S40x16 .f32} {h : Nat}
    (e : ∀ j, (j 0).val < h → A j = B j) (j : S40x16.Idx) (hj : (j 0).val < h) : addAt v w mask A j = addAt v w mask B j := by
  unfold addAt; rw [e j hj]

theorem accN_congr (X : Vec F S16x2048 .f32) {A B : Vec F S40x16 .f32} {h : Nat} (e : ∀ j, (j 0).val < h → A j = B j) :
    ∀ (n : Nat) (j : S40x16.Idx), (j 0).val < h → accN X A n j = accN X B n j
  | 0, j, hj => e j hj
  | n + 1, j, hj => by
    unfold accN
    split
    · exact addAt_congr _ _ _ (addAt_congr _ _ _ (addAt_congr _ _ _ (addAt_congr _ _ _ (accN_congr X e n)))) j hj
    · exact accN_congr X e n j hj

theorem rowOf_congr {A B : Vec F S40x16 .f32} {h : Nat} (e : ∀ j, (j 0).val < h → A j = B j) (r : Nat) (hr : r < 40) (hh : r < h) :
    rowOf A r hr = rowOf B r hr := funext fun x => e _ hh

theorem outN_congr {A B : Vec F S40x16 .f32} (e : ∀ j, (j 0).val < 36 → A j = B j) (g g' : Vec F S16x24 .f32) : outN A 24 g = outN B 24 g' := by
  funext j
  have hj : (j 1).val < 24 := (j 1).isLt
  simp only [outN, if_pos hj]
  unfold meanV
  rw [rowOf_congr e _ _ (by omega), rowOf_congr e _ _ (by omega)]

/-- The means of a block of neighbours, the directions of a block of neighbours. -/
def outB (X : Vec F S16x2048 .f32) : Vec F S16x24 .f32 := outN (accN X (fun _ => zf) 128) 24 (fun _ => zf)
def dirB (X : Vec F S16x2048 .f32) : Vec F S16x128 .f32 := dirN X (fun _ => zf) 128

theorem outN_eq (X : Vec F S16x2048 .f32) (A : Vec F S40x16 .f32) (g : Vec F S16x24 .f32) : outN (accN X (zeroRows 36 A) 128) 24 g = outB X :=
  outN_congr (accN_congr X (fun j hj => by simp only [zeroRows, if_pos hj]) 128) _ _

theorem dirN_congr (X : Vec F S16x2048 .f32) (B B' : Vec F S16x128 .f32) :
    ∀ (n : Nat) (j : S16x128.Idx), (j 1).val < n → dirN X B n j = dirN X B' n j
  | 0, j, hj => absurd hj (by omega)
  | n + 1, j, hj => by
    unfold dirN
    split
    · unfold setCol
      split
      · rfl
      · exact dirN_congr X B B' n j (by omega)
    · rename_i h
      have : (j 1).val < 128 := (j 1).isLt
      exact dirN_congr X B B' n j (by omega)

theorem dirN_eq (X : Vec F S16x2048 .f32) (B : Vec F S16x128 .f32) : dirN X B 128 = dirB X :=
  funext fun j => dirN_congr X B _ 128 j (j 1).isLt

/-- The two results: row `x`'s block is the sixteen rows around it. -/
def meansOf (V0 : Vec F S16384x2048 .f32) : Vec F S16384x24 .f32 := fun x =>
  outB (blk V0 (16 * ((x 0).val / 16))) (ix2 (m := 16) (n := 24) ⟨(x 0).val % 16, Nat.mod_lt _ (by decide)⟩ (x 1))
def dirsOf (V0 : Vec F S16384x2048 .f32) : Vec F S16384x128 .f32 := fun x =>
  dirB (blk V0 (16 * ((x 0).val / 16))) (ix2 (m := 16) (n := 128) ⟨(x 0).val % 16, Nat.mod_lt _ (by decide)⟩ (x 1))

/-- The rows below `hi` at `T`, the rest at `f`. -/
def below {n : Nat} (hi : Nat) (T f : Vec F ⟨2, ![16384, n]⟩ .f32) : Vec F ⟨2, ![16384, n]⟩ .f32 := fun x => if (x 0).val < hi then T x else f x

theorem put_below {n : Nat} (o : Nat) (T f : Vec F ⟨2, ![16384, n]⟩ .f32) (A : Vec F ⟨2, ![16, n]⟩ .f32)
    (h : ∀ x : (⟨2, ![16384, n]⟩ : Shape).Idx, ∀ h : o ≤ (x 0).val ∧ (x 0).val < o + 16, A (ix2 (m := 16) (n := n) ⟨(x 0).val - o, by omega⟩ (x 1)) = T x) :
    putRows o A (below o T f) = below (o + 16) T f := by
  funext x
  unfold putRows below
  split
  · rename_i hx
    rw [if_pos hx.2, h x hx]
  · rename_i hx
    by_cases h1 : (x 0).val < o
    · rw [if_pos h1, if_pos (by omega)]
    · rw [if_neg h1, if_neg (by omega)]

theorem put_means (V0 : Vec F S16384x2048 .f32) (o : Nat) (ho : o % 16 = 0) (f : Vec F S16384x24 .f32) :
    putRows o (outB (blk V0 o)) (below o (meansOf V0) f) = below (o + 16) (meansOf V0) f :=
  put_below o _ _ _ fun x hx => by
    have e : 16 * ((x 0).val / 16) = o := by omega
    unfold meansOf
    rw [e]
    congr 2
    exact Fin.ext (show (x 0).val - o = (x 0).val % 16 by omega)

theorem put_dirs (V0 : Vec F S16384x2048 .f32) (o : Nat) (ho : o % 16 = 0) (f : Vec F S16384x128 .f32) :
    putRows o (dirB (blk V0 o)) (below o (dirsOf V0) f) = below (o + 16) (dirsOf V0) f :=
  put_below o _ _ _ fun x hx => by
    have e : 16 * ((x 0).val / 16) = o := by omega
    unfold dirsOf
    rw [e]
    congr 2
    exact Fin.ext (show (x 0).val - o = (x 0).val % 16 by omega)

/-! ## The parts that copy -/

variable (V0 : Vec F S16384x2048 .f32) {O : CellTallies nD τ sig (HIx 1)} {W : Waits sig (HIx 1)}

/-- The levels of the launch's waits. -/
abbrev lvs : sProp 𝕄 := levAts (K (F := F)).L (K (F := F)).lev
/-- The task's rows. -/
abbrev mine (n : Nat) : Finset (⟨2, ![16384, n]⟩ : Shape).Idx := rows n (base L) 512
/-- The count of a copy semaphore at zero. -/
abbrev zero (sm : DmaSem sig) : sProp 𝕄 := semVal (thr d L, .dma sm) 0

theorem part9 {α : Type} {Q : α → sProp 𝕄} (hO : ∀ g, O g none = 0) (A : Vec F S40x16 .f32) (X : Vec F S16x2048 .f32) (v2 : BitVec 32)
    (t : Fin k0_t1_loop.trips) {k : BitVec 32 → Prog (TpuEff nD τ sig (Elt F) Λ₀ (.scVector (cV L) (jV L))) α} :
    (iprop(lvs (F := F) ∗ inFlight d L slot0 cc0_scratch4.sem (mine L 2048) V0 (base L + 32 * t.val) ∗ atX d L slot1 X ∗ zero d L cc0_scratch5.sem
        ∗ atA d L A ∗ owing d L O W) : sProp 𝕄)
      ⊢ iprop((inFlight d L slot1 cc0_scratch5.sem (mine L 2048) V0 (base L + 32 * t.val + 16) ∗ atX d L slot0 (blk V0 (base L + 32 * t.val))
          ∗ zero d L cc0_scratch4.sem ∗ atA d L (zeroRows 3 A) ∗ owing d L O W -∗ WP d L (k (Scalar.muli 2#32 (Scf.iv 0#32 1#32 t))) Q)
      -∗ WP d L (k0_part9 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 v2 (k0_pay106 (F := F)) 0#32 1#32 t >>= k) Q) := by
  have ht : t.val < 16 := t.isLt
  have hb := base_le L
  rw [k0_part9_eq_skeleton]
  unfold k0_part9_skel
  simp only [Prog.lift, Prog.bind_op, Prog.bind_ret, Prog.pure_eq_ret, bind_assoc]
  iintro ⟨#Hlv, Hfl, HX, Hv, HA, HO⟩ Hk
  iapply (wp_arrive d L slot0 cc0_scratch4.sem (mine L 2048) V0 (o := base L + 32 * t.val) (rows_subset (by omega) (by omega)) hO) $$ [Hfl HO]
  · isplitr
    · iexact Hlv
    isplitl [Hfl]
    · iexact Hfl
    · iexact HO
  iintro ⟨HN, HX0, Hv0, HO⟩
  iapply (wp_send d L slot1 cc0_scratch5.sem (mine L 2048) V0 X (off3 L t) (rows_subset (by omega) (by omega))) $$ [HN HX Hv]
  · isplitl [HN]
    · iexact HN
    isplitl [HX]
    · iexact HX
    · iexact Hv
  iintro Hfl
  rw [← zeroRows_zero A]
  iterate 3 (iapply (wp_zero d L) $$ HA; iintro HA)
  rw [zeroRows_zero]
  iapply Hk
  isplitl [Hfl]
  · iexact Hfl
  isplitl [HX0]
  · iexact HX0
  isplitl [Hv0]
  · iexact Hv0
  isplitl [HA]
  · iexact HA
  · iexact HO

theorem part18 {α : Type} {Q : α → sProp 𝕄} (hO : ∀ g, O g none = 0) (A : Vec F S40x16 .f32) (B : Vec F S16x128 .f32) (g : Vec F S16x24 .f32)
    (fc : Vec F S16384x24 .f32) (ff : Vec F S16384x128 .f32) (v2 v30 : BitVec 32) (t : Fin k0_t1_loop.trips)
    {k : PUnit → Prog (TpuEff nD τ sig (Elt F) Λ₀ (.scVector (cV L) (jV L))) α} :
    (iprop(lvs (F := F) ∗ atA d L A ∗ atD d L B ∗ atO d L (outN A 21 g) ∗ atC d L (mine L 24) fc ∗ atF d L (mine L 128) ff
        ∗ zero d L cc0_scoped0.sem ∗ zero d L cc0_scoped1.sem ∗ owing d L O W) : sProp 𝕄)
      ⊢ iprop((atA d L A ∗ atD d L B ∗ atO d L (outN A 24 g) ∗ atC d L (mine L 24) (putRows (base L + 32 * t.val) (outN A 24 g) fc)
          ∗ atF d L (mine L 128) (putRows (base L + 32 * t.val) B ff) ∗ zero d L cc0_scoped0.sem ∗ zero d L cc0_scoped1.sem ∗ owing d L O W
          -∗ WP d L (k ⟨⟩) Q)
      -∗ WP d L (k0_part18 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 v2 lanes t v30 (cntV A 7 (by decide)) 29#32 >>= k) Q) := by
  have ht : t.val < 16 := t.isLt
  have hb := base_le L
  rw [k0_part18_eq_skeleton]
  unfold k0_part18_skel
  simp only [Prog.lift, Prog.bind_op, Prog.bind_ret, Prog.pure_eq_ret, bind_assoc]
  iintro ⟨#Hlv, HA, HB, HO, HC, HF, Hr0, Hr1, Ho⟩ Hk
  iapply (wp_row d L) $$ HA; iintro HA
  iapply (wp_mean d L 21 (by decide) (chk_mean 21 (by decide))) $$ HO; iintro HO
  iapply (wp_row d L) $$ HA; iintro HA
  iapply (wp_mean d L 22 (by decide) (chk_mean 22 (by decide))) $$ HO; iintro HO
  iapply (wp_row d L) $$ HA; iintro HA
  iapply (wp_mean d L 23 (by decide) (chk_mean 23 (by decide))) $$ HO; iintro HO
  iapply (wp_putC d L cc0_scoped0.sem (mine L 24) fc (outN A 24 g) (off4 L t) (rows_subset (by omega) (by omega)) hO) $$ [HO HC Hr0 Ho]
  · isplitr
    · iexact Hlv
    isplitl [HO]
    · iexact HO
    isplitl [HC]
    · iexact HC
    isplitl [Hr0]
    · iexact Hr0
    · iexact Ho
  iintro ⟨HO, HC, Hr0, Ho⟩
  iapply (wp_putF d L cc0_scoped1.sem (mine L 128) ff B (off5 L t) (rows_subset (by omega) (by omega)) hO) $$ [HB HF Hr1 Ho]
  · isplitr
    · iexact Hlv
    isplitl [HB]
    · iexact HB
    isplitl [HF]
    · iexact HF
    isplitl [Hr1]
    · iexact Hr1
    · iexact Ho
  iintro ⟨HB, HF, Hr1, Ho⟩
  iapply Hk
  isplitl [HA]
  · iexact HA
  isplitl [HB]
  · iexact HB
  isplitl [HO]
  · iexact HO
  isplitl [HC]
  · iexact HC
  isplitl [HF]
  · iexact HF
  isplitl [Hr0]
  · iexact Hr0
  isplitl [Hr1]
  · iexact Hr1
  · iexact Ho

/-- The first slot between two trips: the next block on its way into it, or idle after the last. -/
def ahead (n : Nat) : sProp 𝕄 :=
  if n < 16 then inFlight d L slot0 cc0_scratch4.sem (mine L 2048) V0 (base L + 32 * n)
  else iprop(atN d L (mine L 2048) V0 ∗ (∃ X, atX d L slot0 X) ∗ zero d L cc0_scratch4.sem)

theorem part19 {α : Type} {Q : α → sProp 𝕄} (hO : ∀ g, O g none = 0) (A : Vec F S40x16 .f32) (X : Vec F S16x2048 .f32) (v2 v30 : BitVec 32)
    (t : Fin k0_t1_loop.trips) {k : PUnit → Prog (TpuEff nD τ sig (Elt F) Λ₀ (.scVector (cV L) (jV L))) α} :
    (iprop(lvs (F := F) ∗ inFlight d L slot1 cc0_scratch5.sem (mine L 2048) V0 (base L + 32 * t.val + 16) ∗ atX d L slot0 X ∗ zero d L cc0_scratch4.sem
        ∗ atA d L A ∗ owing d L O W) : sProp 𝕄)
      ⊢ iprop((ahead d L V0 (t.val + 1) ∗ atX d L slot1 (blk V0 (base L + 32 * t.val + 16))
          ∗ zero d L cc0_scratch5.sem ∗ atA d L (zeroRows 6 A) ∗ owing d L O W -∗ WP d L (k ⟨⟩) Q)
      -∗ WP d L (k0_part19 L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 v2 (k0_pay106 (F := F)) t v30 >>= k) Q) := by
  have ht : t.val < 16 := t.isLt
  have hb := base_le L
  rw [k0_part19_eq_skeleton]
  unfold k0_part19_skel
  simp only [Prog.lift, Prog.bind_op, Prog.bind_ret, Prog.pure_eq_ret, bind_assoc]
  iintro ⟨#Hlv, Hfl, HX, Hv, HA, HO⟩ Hk
  iapply (wp_arrive d L slot1 cc0_scratch5.sem (mine L 2048) V0 (o := base L + 32 * t.val + 16) (rows_subset (by omega) (by omega)) hO) $$ [Hfl HO]
  · isplitr
    · iexact Hlv
    isplitl [Hfl]
    · iexact Hfl
    · iexact HO
  iintro ⟨HN, HX1, Hv1, HO⟩
  by_cases hc : k0_cond1 t = 1#1
  · simp only [dif_pos hc, Prog.lift, Prog.bind_op, Prog.bind_ret, Prog.pure_eq_ret, bind_assoc]
    have hn := (cond1 t).mp hc
    iapply (wp_send d L slot0 cc0_scratch4.sem (mine L 2048) V0 X (off7 L t) (rows_subset (by omega) (by omega))) $$ [HN HX Hv]
    · isplitl [HN]
      · iexact HN
      isplitl [HX]
      · iexact HX
      · iexact Hv
    iintro Hfl
    rw [← zeroRows_zero A]
    iterate 6 (iapply (wp_zero d L) $$ HA; iintro HA)
    rw [zeroRows_zero]
    iapply Hk
    isplitl [Hfl]
    · unfold ahead
      rw [if_pos hn]
      iexact Hfl
    isplitl [HX1]
    · iexact HX1
    isplitl [Hv1]
    · iexact Hv1
    isplitl [HA]
    · iexact HA
    · iexact HO
  · simp only [dif_neg hc, Prog.lift, Prog.bind_op, Prog.bind_ret, Prog.pure_eq_ret, bind_assoc]
    have hn : ¬ t.val + 1 < 16 := fun h => hc ((cond1 t).mpr h)
    rw [← zeroRows_zero A]
    iterate 6 (iapply (wp_zero d L) $$ HA; iintro HA)
    rw [zeroRows_zero]
    iapply Hk
    isplitl [HN HX Hv]
    · unfold ahead
      rw [if_neg hn]
      isplitl [HN]
      · iexact HN
      isplitl [HX]
      · iexists _; iexact HX
      · iexact Hv
    isplitl [HX1]
    · iexact HX1
    isplitl [Hv1]
    · iexact Hv1
    isplitl [HA]
    · iexact HA
    · iexact HO

/-- What a trip keeps from one to the next, before trip `n`. -/
def tripInv (fc : Vec F S16384x24 .f32) (ff : Vec F S16384x128 .f32) (O : CellTallies nD τ sig (HIx 1)) (W : Waits sig (HIx 1)) (n : Nat) : sProp 𝕄 :=
  iprop(ahead d L V0 n ∗ (∃ X, atX d L slot1 X) ∗ zero d L cc0_scratch5.sem ∗ (∃ A, atA d L A) ∗ (∃ B, atD d L B) ∗ (∃ g, atO d L g)
    ∗ atC d L (mine L 24) (below (base L + 32 * n) (meansOf V0) fc) ∗ atF d L (mine L 128) (below (base L + 32 * n) (dirsOf V0) ff)
    ∗ zero d L cc0_scoped0.sem ∗ zero d L cc0_scoped1.sem ∗ zero d L cc0_scoped2.sem ∗ zero d L cc0_scoped3.sem ∗ owing d L O W)

theorem trip (hO : ∀ g, O g none = 0) (fc : Vec F S16384x24 .f32) (ff : Vec F S16384x128 .f32) (v2 : BitVec 32) (t : Fin k0_t1_loop.trips) :
    (iprop(lvs (F := F) ∗ tripInv d L V0 fc ff O W t.val) : sProp 𝕄)
      ⊢ WP d L (k0_t1_body L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3 v2 lanes (k0_pay105 (F := F)) (k0_pay106 (F := F)) k0_pay107 k0_pay108 k0_pay109 k0_pay110 k0_pay111 k0_pay112 k0_pay113 k0_pay114 k0_pay115 k0_pay116 k0_pay117 k0_pay118 k0_pay119 k0_pay120 k0_pay121 k0_pay122 t ⟨⟩)
        (fun _ => tripInv d L V0 fc ff O W (t.val + 1)) := by
  have ht : t.val < 16 := t.isLt
  have hb := base_le L
  have hm : base L % 16 = 0 := by unfold base; omega
  unfold k0_t1_body
  simp only [Prog.lift, Prog.bind_op, Prog.bind_ret, Prog.pure_eq_ret, bind_assoc]
  unfold tripInv
  have e0 : ahead d L V0 t.val = inFlight d L slot0 cc0_scratch4.sem (mine L 2048) V0 (base L + 32 * t.val) := if_pos ht
  rw [e0]
  iintro ⟨#Hlv, Hah, ⟨%X1, HX1⟩, Hv1, ⟨%A, HA⟩, ⟨%B, HB⟩, ⟨%g, HO⟩, HC, HF, Hr0, Hr1, Hr2, Hr3, Ho⟩
  -- the block in the first slot
  iapply (part9 d L V0 hO A X1 v2 t) $$ [Hah HX1 Hv1 HA Ho]
  · isplitr
    · iexact Hlv
    isplitl [Hah]
    · iexact Hah
    isplitl [HX1]
    · iexact HX1
    isplitl [Hv1]
    · iexact Hv1
    isplitl [HA]
    · iexact HA
    · iexact Ho
  iintro ⟨Hfl, HX, Hv0, HA, Ho⟩
  iapply (part10 d L A) $$ HA; iintro HA
  iapply (part11 d L A) $$ HA; iintro HA
  iapply (part12 d L A) $$ HA; iintro HA
  iapply (part13 d L (blk V0 (base L + 32 * t.val)) A B g) $$ [HX HA HB HO]
  · isplitl [HX]
    · iexact HX
    isplitl [HA]
    · iexact HA
    isplitl [HB]
    · iexact HB
    · iexact HO
  iintro ⟨HX, HA, HB, HO⟩
  iapply (part14 d L (accN (blk V0 (base L + 32 * t.val)) (zeroRows 36 A) 128) g) $$ [HA HO]
  · isplitl [HA]
    · iexact HA
    · iexact HO
  iintro ⟨HA, HO⟩
  iapply (part15 d L (accN (blk V0 (base L + 32 * t.val)) (zeroRows 36 A) 128) g) $$ [HA HO]
  · isplitl [HA]
    · iexact HA
    · iexact HO
  iintro ⟨HA, HO⟩
  iapply (part16 d L (accN (blk V0 (base L + 32 * t.val)) (zeroRows 36 A) 128) g) $$ [HA HO]
  · isplitl [HA]
    · iexact HA
    · iexact HO
  iintro ⟨HA, HO⟩
  iapply (part17 d L (accN (blk V0 (base L + 32 * t.val)) (zeroRows 36 A) 128) g) $$ [HA HO]
  · isplitl [HA]
    · iexact HA
    · iexact HO
  iintro ⟨HA, HO⟩
  iapply (part18 d L hO (accN (blk V0 (base L + 32 * t.val)) (zeroRows 36 A) 128) (dirN (blk V0 (base L + 32 * t.val)) B 128) g _ _ v2 _ t) $$ [HA HB HO HC HF Hr0 Hr1 Ho]
  · isplitr
    · iexact Hlv
    isplitl [HA]
    · iexact HA
    isplitl [HB]
    · iexact HB
    isplitl [HO]
    · iexact HO
    isplitl [HC]
    · iexact HC
    isplitl [HF]
    · iexact HF
    isplitl [Hr0]
    · iexact Hr0
    isplitl [Hr1]
    · iexact Hr1
    · iexact Ho
  iintro ⟨HA, HB, HO, HC, HF, Hr0, Hr1, Ho⟩
  rw [outN_eq, dirN_eq, put_means V0 _ (by omega), put_dirs V0 _ (by omega)]
  -- the block in the second slot
  iapply (part19 d L V0 hO _ _ v2 _ t) $$ [Hfl HX Hv0 HA Ho]
  · isplitr
    · iexact Hlv
    isplitl [Hfl]
    · iexact Hfl
    isplitl [HX]
    · iexact HX
    isplitl [Hv0]
    · iexact Hv0
    isplitl [HA]
    · iexact HA
    · iexact Ho
  iintro ⟨Hah, HX, Hv1, HA, Ho⟩
  generalize (accN (blk V0 (base L + 32 * t.val)) (zeroRows 36 A) 128) = A'
  generalize dirB (blk V0 (base L + 32 * t.val)) = B'
  generalize outB (blk V0 (base L + 32 * t.val)) = g'
  iapply (part20 d L A') $$ HA; iintro HA
  iapply (part21 d L A') $$ HA; iintro HA
  iapply (part22 d L A') $$ HA; iintro HA
  iapply (part23 d L (blk V0 (base L + 32 * t.val + 16)) (zeroRows 36 A') B' g') $$ [HX HA HB HO]
  · isplitl [HX]
    · iexact HX
    isplitl [HA]
    · iexact HA
    isplitl [HB]
    · iexact HB
    · iexact HO
  iintro ⟨HX, HA, HB, HO⟩
  iapply (part24 d L (accN (blk V0 (base L + 32 * t.val + 16)) (zeroRows 36 A') 128) g') $$ [HA HO]
  · isplitl [HA]
    · iexact HA
    · iexact HO
  iintro ⟨HA, HO⟩
  iapply (part25 d L (accN (blk V0 (base L + 32 * t.val + 16)) (zeroRows 36 A') 128) g') $$ [HA HO]
  · isplitl [HA]
    · iexact HA
    · iexact HO
  iintro ⟨HA, HO⟩
  iapply (part26 d L (accN (blk V0 (base L + 32 * t.val + 16)) (zeroRows 36 A') 128) g') $$ [HA HO]
  · isplitl [HA]
    · iexact HA
    · iexact HO
  iintro ⟨HA, HO⟩
  iapply (part27 d L (accN (blk V0 (base L + 32 * t.val + 16)) (zeroRows 36 A') 128) g') $$ [HA HO]
  · isplitl [HA]
    · iexact HA
    · iexact HO
  iintro ⟨HA, HO⟩
  iapply (wp_row d L) $$ HA; iintro HA
  iapply (wp_mean d L 23 (by decide) (chk_mean 23 (by decide))) $$ HO; iintro HO
  iapply (wp_putC d L cc0_scoped2.sem (mine L 24) _ (outN (accN (blk V0 (base L + 32 * t.val + 16)) (zeroRows 36 A') 128) 24 g') (off8 L t) (rows_subset (by omega) (by omega)) hO) $$ [HO HC Hr2 Ho]
  · isplitr
    · iexact Hlv
    isplitl [HO]
    · iexact HO
    isplitl [HC]
    · iexact HC
    isplitl [Hr2]
    · iexact Hr2
    · iexact Ho
  iintro ⟨HO, HC, Hr2, Ho⟩
  iapply (wp_putF d L cc0_scoped3.sem (mine L 128) _ (dirN (blk V0 (base L + 32 * t.val + 16)) B' 128) (off9 L t) (rows_subset (by omega) (by omega)) hO) $$ [HB HF Hr3 Ho]
  · isplitr
    · iexact Hlv
    isplitl [HB]
    · iexact HB
    isplitl [HF]
    · iexact HF
    isplitl [Hr3]
    · iexact Hr3
    · iexact Ho
  iintro ⟨HB, HF, Hr3, Ho⟩
  iapply (wp_done d L)
  rw [outN_eq, dirN_eq, show base L + 32 * t.val + 16 = (base L + 32 * t.val) + 16 from rfl, put_means V0 _ (by omega), put_dirs V0 _ (by omega),
    show base L + 32 * t.val + 16 + 16 = base L + 32 * (t.val + 1) by omega]
  isplitl [Hah]
  · iexact Hah
  isplitl [HX]
  · iexists _; iexact HX
  isplitl [Hv1]
  · iexact Hv1
  isplitl [HA]
  · iexists _; iexact HA
  isplitl [HB]
  · iexists _; iexact HB
  isplitl [HO]
  · iexists _; iexact HO
  isplitl [HC]
  · iexact HC
  isplitl [HF]
  · iexact HF
  isplitl [Hr0]
  · iexact Hr0
  isplitl [Hr1]
  · iexact Hr1
  isplitl [Hr2]
  · iexact Hr2
  isplitl [Hr3]
  · iexact Hr3
  · iexact Ho

/-- What the task holds of memory and of its copy semaphores, with the arrays' rows. -/
def ends (fc : Vec F S16384x24 .f32) (ff : Vec F S16384x128 .f32) : sProp 𝕄 :=
  iprop((∃ X, atX d L slot0 X) ∗ (∃ X, atX d L slot1 X) ∗ (∃ A, atA d L A) ∗ (∃ B, atD d L B) ∗ (∃ g, atO d L g)
    ∗ zero d L cc0_scratch4.sem ∗ zero d L cc0_scratch5.sem
    ∗ zero d L cc0_scoped0.sem ∗ zero d L cc0_scoped1.sem ∗ zero d L cc0_scoped2.sem ∗ zero d L cc0_scoped3.sem
    ∗ atN d L (mine L 2048) V0 ∗ atC d L (mine L 24) fc ∗ atF d L (mine L 128) ff)

theorem below_base {n : Nat} (T f : Vec F ⟨2, ![16384, n]⟩ .f32) : ∀ x ∈ mine L n, f x = below (base L + 32 * 0) T f x := fun x hx => by
  rw [mem_rows] at hx
  unfold below
  rw [if_neg (by omega)]

theorem below_end {n : Nat} (T f : Vec F ⟨2, ![16384, n]⟩ .f32) : ∀ x ∈ mine L n, below (base L + 32 * 16) T f x = T x := fun x hx => by
  rw [mem_rows] at hx
  unfold below
  rw [if_pos (by omega)]

/-- The task: its rows of the two results end at the means and at the directions of its rows of the neighbours. -/
theorem task (hO : ∀ g, O g none = 0) (fc : Vec F S16384x24 .f32) (ff : Vec F S16384x128 .f32) :
    (iprop(lvs (F := F) ∗ ends d L V0 fc ff ∗ owing d L O W) : sProp 𝕄)
      ⊢ WP d L (cc0_sc_kernel L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3)
        (fun _ => iprop(ends d L V0 (meansOf V0) (dirsOf V0) ∗ owing d L O W)) := by
  have hb := base_le L
  have ec : atC d L (mine L 24) fc = atC d L (mine L 24) (below (base L + 32 * 0) (meansOf V0) fc) := pointsTo_congr (below_base L _ fc)
  have ef : atF d L (mine L 128) ff = atF d L (mine L 128) (below (base L + 32 * 0) (dirsOf V0) ff) := pointsTo_congr (below_base L _ ff)
  have ec' : atC d L (mine L 24) (below (base L + 32 * 16) (meansOf V0) fc) = atC d L (mine L 24) (meansOf V0) := pointsTo_congr (below_end L _ fc)
  have ef' : atF d L (mine L 128) (below (base L + 32 * 16) (dirsOf V0) ff) = atF d L (mine L 128) (dirsOf V0) := pointsTo_congr (below_end L _ ff)
  rw [cc0_sc_kernel_eq_skeleton]
  unfold cc0_sc_kernel_skel
  rw [k0_part28_eq_skeleton]
  unfold k0_part28_skel
  simp only [Prog.lift, Prog.bind_op, Prog.bind_ret, Prog.pure_eq_ret, bind_assoc]
  unfold ends
  rw [ec, ef]
  iintro ⟨#Hlv, ⟨⟨%X0, HX0⟩, ⟨%X1, HX1⟩, HA, HB, Hg, Hv0, Hv1, Hr0, Hr1, Hr2, Hr3, HN, HC, HF⟩, Ho⟩
  iapply (wp_send d L slot0 cc0_scratch4.sem (mine L 2048) V0 X0 (o := base L) (off1 L) (rows_subset (by omega) (by omega))) $$ [HN HX0 Hv0]
  · isplitl [HN]
    · iexact HN
    isplitl [HX0]
    · iexact HX0
    · iexact Hv0
  iintro Hfl
  iapply (Scf.wp_for_bind frame _ _ k0_t1_loop.lb k0_t1_loop.ub k0_t1_loop.st k0_t1_ok ⟨⟩ _
    (fun n _ => iprop(lvs (F := F) ∗ tripInv d L V0 fc ff O W n)) ?_) $$ [Hfl HX1 HA HB Hg Hv1 Hr0 Hr1 Hr2 Hr3 HC HF Ho]
  · intro n _
    have dup : (iprop(lvs (F := F) ∗ tripInv d L V0 fc ff O W n.val) : sProp 𝕄) ⊢ iprop(lvs (F := F) ∗ (lvs (F := F) ∗ tripInv d L V0 fc ff O W n.val)) := by
      iintro ⟨#Hlv, H⟩
      isplitr
      · iexact Hlv
      isplitr
      · iexact Hlv
      · iexact H
    exact dup.trans ((sep_mono .rfl (trip d L V0 hO fc ff _ n)).trans (wp_frame_l frame _ _))
  · isplitr
    · iexact Hlv
    unfold tripInv
    isplitl [Hfl]
    · unfold ahead
      rw [if_pos (by decide)]
      iexact Hfl
    isplitl [HX1]
    · iexists X1; iexact HX1
    isplitl [Hv1]
    · iexact Hv1
    isplitl [HA]
    · iexact HA
    isplitl [HB]
    · iexact HB
    isplitl [Hg]
    · iexact Hg
    isplitl [HC]
    · iexact HC
    isplitl [HF]
    · iexact HF
    isplitl [Hr0]
    · iexact Hr0
    isplitl [Hr1]
    · iexact Hr1
    isplitl [Hr2]
    · iexact Hr2
    isplitl [Hr3]
    · iexact Hr3
    · iexact Ho
  iintro %u ⟨-, H⟩
  iapply (wp_done d L)
  unfold tripInv
  icases H with ⟨Hah, HX1, Hv1, HA, HB, Hg, HC, HF, Hr0, Hr1, Hr2, Hr3, Ho⟩
  have e16 : k0_t1_loop.trips = 16 := by decide
  ihave Hah' := (Entails.of_eq (show ahead d L V0 k0_t1_loop.trips = iprop(atN d L (mine L 2048) V0 ∗ (∃ X, atX d L slot0 X) ∗ zero d L cc0_scratch4.sem) from if_neg (by decide))) $$ Hah
  icases Hah' with ⟨HN, HX0, Hv0⟩
  ihave HC' := (Entails.of_eq (show atC d L (mine L 24) (below (base L + 32 * k0_t1_loop.trips) (meansOf V0) fc) = _ from e16 ▸ ec')) $$ HC
  ihave HF' := (Entails.of_eq (show atF d L (mine L 128) (below (base L + 32 * k0_t1_loop.trips) (dirsOf V0) ff) = _ from e16 ▸ ef')) $$ HF
  isplitr [Ho]
  · isplitl [HX0]
    · iexact HX0
    isplitl [HX1]
    · iexact HX1
    isplitl [HA]
    · iexact HA
    isplitl [HB]
    · iexact HB
    isplitl [Hg]
    · iexact Hg
    isplitl [Hv0]
    · iexact Hv0
    isplitl [Hv1]
    · iexact Hv1
    isplitl [Hr0]
    · iexact Hr0
    isplitl [Hr1]
    · iexact Hr1
    isplitl [Hr2]
    · iexact Hr2
    isplitl [Hr3]
    · iexact Hr3
    isplitl [HN]
    · iexact HN
    isplitl [HC']
    · iexact HC'
    · iexact HF'
  · iexact Ho

end Cert.Proof
-- ==== Proof.Launch.lean ====
module

public import proofs.«01_k».proof.Proof.Tile

@[expose] public section

/-! A task as the launch runs it: its scratch dealt and handed back, its rows of the three arrays. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid0.Coords)

open Idealize.ShloMosaic.SparseCore.Cfg (ownBufs ownSems0 ownCells ownRefs mem_ownCells mem_ownRefs)

/-! ## The scratch a subcore is dealt -/

/-- The task's six copy semaphores. -/
def sems : Finset (SemLoc sig) := {.dma cc0_scratch4.sem, .dma cc0_scratch5.sem, .dma cc0_scoped0.sem, .dma cc0_scoped1.sem, .dma cc0_scoped2.sem, .dma cc0_scoped3.sem}
/-- The task's four scratch buffers. -/
def bufs : Finset (Ref sig .scVector) := {cc0_scratch0, cc0_scratch1, cc0_scratch2, cc0_scratch3}

/-- The semaphores' cells on the task's subcore. -/
def cellsOf : Finset (GSem nD τ sig) := sems.map ⟨fun s => (thr d L, s), fun _ _ e => (Prod.mk.inj e).2⟩
/-- The buffers' names on the device. -/
def refsOf : Finset (DevRef τ sig) := bufs.map ⟨(Proc.scVector (cV L) (jV L)).devRef, Proc.devRef_injective _⟩

omit [FloatOps F] in
theorem sems_scoped : ∀ s ∈ sems, s.isScoped .scVector = true := by decide

omit [FloatOps F] in
theorem bufs_new : (cc0_scratch0 : Ref sig .scVector) ∉ ({cc0_scratch1, cc0_scratch2, cc0_scratch3} : Finset (Ref sig .scVector))
    ∧ (cc0_scratch1 : Ref sig .scVector) ∉ ({cc0_scratch2, cc0_scratch3} : Finset (Ref sig .scVector))
    ∧ (cc0_scratch2 : Ref sig .scVector) ∉ ({cc0_scratch3} : Finset (Ref sig .scVector)) := by decide

omit [FloatOps F] in
theorem cells_sub : cellsOf d L ⊆ ownCells (thr d L) := fun g hg => by
  obtain ⟨s, hs, rfl⟩ := Finset.mem_map.mp hg
  exact mem_ownCells.mpr ⟨rfl, sems_scoped s hs⟩

omit [FloatOps F] in
theorem refs_sub : refsOf L ⊆ ownRefs (τ := τ) (.scVector (cV L) (jV L)) := fun b hb => by
  obtain ⟨r, hr, rfl⟩ := Finset.mem_map.mp hb
  refine SparseCore.Cfg.mem_ownRefs_of_owner ?_
  revert hr; unfold bufs
  simp only [Finset.mem_insert, Finset.mem_singleton]
  rintro (rfl | rfl | rfl | rfl) <;> rfl

/-- The rest of what the subcore is dealt. -/
def restSems : sProp 𝕄 := bigSep (ownCells (thr d L) \ cellsOf d L) fun g => semVal g 0
def restBufs : sProp 𝕄 := bigSep (ownRefs (τ := τ) (.scVector (cV L) (jV L)) \ refsOf L) fun b => iprop(∃ f, ((d, b) : Loc nD τ sig) ↦{fullShare} f)

omit [FloatOps F] in
theorem ownSems0_V : (ownSems0 (thr d L) : sProp 𝕄)
    = iprop((zero d L cc0_scratch4.sem ∗ zero d L cc0_scratch5.sem ∗ zero d L cc0_scoped0.sem ∗ zero d L cc0_scoped1.sem ∗ zero d L cc0_scoped2.sem
        ∗ zero d L cc0_scoped3.sem) ∗ restSems d L) := by
  unfold SparseCore.Cfg.ownSems0 restSems
  rw [SparseCore.bigSep_sdiff_split' (cells_sub d L)]
  congr 1
  unfold cellsOf sems
  rw [bigSep_map, SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem ownBufs_V : (ownBufs (thr d L) : sProp 𝕄)
    = iprop(((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)) ∗ restBufs d L) := by
  unfold SparseCore.Cfg.ownBufs restBufs
  refine (SparseCore.bigSep_sdiff_split' (refs_sub L)).trans ?_
  congr 1
  unfold refsOf bufs
  rw [bigSep_map, SparseCore.bigSep_insert' bufs_new.1, SparseCore.bigSep_insert' bufs_new.2.1, SparseCore.bigSep_insert' bufs_new.2.2, bigSep_singleton]
  rfl

/-! ## The landing buffer as its two slots -/

omit [FloatOps F] in
theorem slot0_set : slot0.view.set = (Rect.unit (s := S2x16x2048) ![0, 0, 0] S1x16x2048.size inb_S2x16x2048_S1x16x2048_0_0_0).set := by
  show ((xW.view.slice _).reshape _ _).set = _
  rw [View.set_reshape]; exact View.set_slice_whole cc0_scratch0 _
omit [FloatOps F] in
theorem slot1_set : slot1.view.set = (Rect.unit (s := S2x16x2048) ![1, 0, 0] S1x16x2048.size inb_S2x16x2048_S1x16x2048_1_0_0).set := by
  show ((xW.view.slice _).reshape _ _).set = _
  rw [View.set_reshape]; exact View.set_slice_whole cc0_scratch0 _

omit [FloatOps F] in
theorem mem_slot0 (x : S2x16x2048.Idx) : x ∈ slot0.view.set ↔ (x 0).val = 0 := by
  rw [slot0_set, Rect.mem_set_unit]
  constructor
  · intro h; have := (h 0).2; simp at this; omega
  · intro h a
    have ha := (x a).isLt
    match a with
    | 0 => exact ⟨Nat.zero_le _, by simp [h]⟩
    | 1 => exact ⟨Nat.zero_le _, by simpa using ha⟩
    | 2 => exact ⟨Nat.zero_le _, by simpa using ha⟩
omit [FloatOps F] in
theorem mem_slot1 (x : S2x16x2048.Idx) : x ∈ slot1.view.set ↔ (x 0).val = 1 := by
  rw [slot1_set, Rect.mem_set_unit]
  have h0 : (x 0).val < 2 := (x 0).isLt
  constructor
  · intro h; have := (h 0).1; simp at this; omega
  · intro h a
    have ha := (x a).isLt
    match a with
    | 0 => exact ⟨by simp [h], by simp [h]⟩
    | 1 => exact ⟨Nat.zero_le _, by simpa using ha⟩
    | 2 => exact ⟨Nat.zero_le _, by simpa using ha⟩

omit [FloatOps F] in
theorem slots_disjoint : Disjoint (slot0.view.set : Finset S2x16x2048.Idx) slot1.view.set :=
  Finset.disjoint_left.mpr fun x h0 h1 => absurd (((mem_slot0 x).mp h0).symm.trans ((mem_slot1 x).mp h1)) (by decide)
omit [FloatOps F] in
theorem slots_cover : (slot0.view.set : Finset S2x16x2048.Idx) ∪ slot1.view.set = Finset.univ := by
  ext x
  have h0 : (x 0).val < 2 := (x 0).isLt
  have h1 : (x 0).val = 0 ∨ (x 0).val = 1 := by omega
  exact iff_of_true (Finset.mem_union.mpr (h1.imp (mem_slot0 x).mpr (mem_slot1 x).mpr)) (Finset.mem_univ _)

omit [FloatOps F] in
theorem slots_split : (iprop(∃ f, (thr d L).loc cc0_scratch0 ↦{fullShare} f) : sProp 𝕄) ⊢ iprop((∃ X, atX d L slot0 X) ∗ (∃ X, atX d L slot1 X)) := by
  have e : ∀ f : Buf (Elt F) ((thr d L).loc cc0_scratch0), ((thr d L).loc cc0_scratch0 ↦{fullShare} f : sProp 𝕄)
      ⊢ iprop(((thr d L).loc cc0_scratch0 ↦[slot0.view.set]{fullShare} f) ∗ ((thr d L).loc cc0_scratch0 ↦[slot1.view.set]{fullShare} f)) := fun f => by
    refine (Entails.of_eq ?_).trans (pointsTo_union (ℓ := (thr d L).loc cc0_scratch0) slots_disjoint).1
    rw [slots_cover]
  unfold atX
  iintro ⟨%f, H⟩
  ihave H' := (e f) $$ H
  icases H' with ⟨H0, H1⟩
  isplitl [H0]
  · iexists _; iexists f; isplitr
    · ipureintro; rfl
    · iexact H0
  · iexists _; iexists f; isplitr
    · ipureintro; rfl
    · iexact H1

omit [FloatOps F] in
theorem slots_join : (iprop((∃ X, atX d L slot0 X) ∗ (∃ X, atX d L slot1 X)) : sProp 𝕄) ⊢ iprop(∃ f, (thr d L).loc cc0_scratch0 ↦{fullShare} f) := by
  have e : ∀ f g : Buf (Elt F) ((thr d L).loc cc0_scratch0),
      (iprop(((thr d L).loc cc0_scratch0 ↦[slot0.view.set]{fullShare} f) ∗ ((thr d L).loc cc0_scratch0 ↦[slot1.view.set]{fullShare} g)) : sProp 𝕄)
        ⊢ iprop(∃ f, (thr d L).loc cc0_scratch0 ↦{fullShare} f) := fun f g => by
    refine (pointsTo_join (ℓ := (thr d L).loc cc0_scratch0) slots_disjoint).trans ?_
    rw [slots_cover]
    iintro H; iexists _; iexact H
  unfold atX
  iintro ⟨⟨%X, %f, -, H0⟩, ⟨%Y, %g, -, H1⟩⟩
  iapply (e f g)
  isplitl [H0]; · iexact H0
  iexact H1

/-! ## The task -/

abbrev nLoc : Loc nD τ sig := (SparseCore.T d).loc main_v0
abbrev cLoc : Loc nD τ sig := (SparseCore.T d).loc main_v1_0
abbrev fLoc : Loc nD τ sig := (SparseCore.T d).loc main_v1_1

/-- A task's rows of the three arrays. -/
def share (V0 : Vec F S16384x2048 .f32) (fc : Vec F S16384x24 .f32) (ff : Vec F S16384x128 .f32) : sProp 𝕄 :=
  iprop((nLoc d ↦[mine L 2048]{fullShare} V0) ∗ (cLoc d ↦[mine L 24]{fullShare} fc) ∗ fLoc d ↦[mine L 128]{fullShare} ff)

instance share_storable (V0 : Vec F S16384x2048 .f32) (fc : Vec F S16384x24 .f32) (ff : Vec F S16384x128 .f32) :
    BI.Storable (upEmb : UEmb _ 𝕄) (share d L V0 fc ff) := by unfold share; infer_instance

/-- What the task starts from, of what the subcore is dealt. -/
theorem deal (V0 : Vec F S16384x2048 .f32) (fc : Vec F S16384x24 .f32) (ff : Vec F S16384x128 .f32) :
    (iprop(share d L V0 fc ff ∗ ownBufs (thr d L) ∗ ownSems0 (thr d L)) : sProp 𝕄) ⊢ iprop(ends d L V0 fc ff ∗ restBufs d L ∗ restSems d L) := by
  rw [ownSems0_V, ownBufs_V]
  unfold share ends
  iintro ⟨⟨Hn, Hc, Hf⟩, ⟨⟨Hx, Ha, Hd, Ho⟩, Hrb⟩, ⟨⟨H4, H5, H0, H1, H2, H3⟩, Hrs⟩⟩
  ihave Hx' := (slots_split d L) $$ Hx
  icases Hx' with ⟨Hx0, Hx1⟩
  isplitr [Hrb Hrs]
  · isplitl [Hx0]; · iexact Hx0
    isplitl [Hx1]; · iexact Hx1
    isplitl [Ha]; · iexact Ha
    isplitl [Hd]; · iexact Hd
    isplitl [Ho]; · iexact Ho
    isplitl [H4]; · iexact H4
    isplitl [H5]; · iexact H5
    isplitl [H0]; · iexact H0
    isplitl [H1]; · iexact H1
    isplitl [H2]; · iexact H2
    isplitl [H3]; · iexact H3
    isplitl [Hn]; · iexact Hn
    isplitl [Hc]; · iexact Hc
    iexact Hf
  isplitl [Hrb]; · iexact Hrb
  iexact Hrs

/-- And back. -/
theorem undeal (V0 : Vec F S16384x2048 .f32) (fc : Vec F S16384x24 .f32) (ff : Vec F S16384x128 .f32) :
    (iprop(ends d L V0 fc ff ∗ restBufs d L ∗ restSems d L) : sProp 𝕄) ⊢ iprop(share d L V0 fc ff ∗ ownBufs (thr d L) ∗ ownSems0 (thr d L)) := by
  rw [ownSems0_V, ownBufs_V]
  unfold share ends
  iintro ⟨⟨Hx0, Hx1, Ha, Hd, Ho, H4, H5, H0, H1, H2, H3, Hn, Hc, Hf⟩, Hrb, Hrs⟩
  isplitl [Hn Hc Hf]
  · isplitl [Hn]; · iexact Hn
    isplitl [Hc]; · iexact Hc
    iexact Hf
  isplitr [H4 H5 H0 H1 H2 H3 Hrs]
  · isplitr [Hrb]
    · isplitl [Hx0 Hx1]
      · iapply (slots_join d L)
        isplitl [Hx0]; · iexact Hx0
        iexact Hx1
      isplitl [Ha]; · iexact Ha
      isplitl [Hd]; · iexact Hd
      iexact Ho
    · iexact Hrb
  isplitr [Hrs]
  · isplitl [H4]; · iexact H4
    isplitl [H5]; · iexact H5
    isplitl [H0]; · iexact H0
    isplitl [H1]; · iexact H1
    isplitl [H2]; · iexact H2
    iexact H3
  iexact Hrs

theorem tile_body (hF : (K (F := F)).Facts) (O : CellTallies nD τ sig (HIx 1)) (W : Waits sig (HIx 1)) (hO : ∀ g, O g none = 0)
    (V0 : Vec F S16384x2048 .f32) (fc : Vec F S16384x24 .f32) (ff : Vec F S16384x128 .f32) :
    (iprop(levAts (K (F := F)).L (K (F := F)).lev ∗ emp ∗ share d L V0 fc ff
        ∗ scopedBufs (thr d L) ∗ scopedSems0 (thr d L) ∗ owes (thr d L) O W) : sProp 𝕄)
      ⊢ wp frame (wpE (defs₀ (F := F)) 𝒱₀ (thr d L) none) Set.univ
          (cc0_sc_kernel L nW (Memref.isWhole_whole _) cW (Memref.isWhole_whole _) fW (Memref.isWhole_whole _) xW (Memref.isWhole_whole _)
          aW (Memref.isWhole_whole _) dW (Memref.isWhole_whole _) oW (Memref.isWhole_whole _) cc0_scratch4 cc0_scratch5 cc0_scoped0 cc0_scoped1
          cc0_scoped2 cc0_scoped3)
          fun _ => iprop(share d L V0 (meansOf V0) (dirsOf V0) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  have hpre : (iprop(levAts (K (F := F)).L (K (F := F)).lev ∗ emp ∗ share d L V0 fc ff
        ∗ ownBufs (thr d L) ∗ ownSems0 (thr d L) ∗ owes (thr d L) O W) : sProp 𝕄)
      ⊢ iprop((restBufs d L ∗ restSems d L) ∗ (lvs (F := F) ∗ ends d L V0 fc ff ∗ owing d L O W)) := by
    iintro ⟨Hlv, -, Hs, Hb, Hm, HO⟩
    ihave H := (deal d L V0 fc ff) $$ [Hs Hb Hm]
    · isplitl [Hs]; · iexact Hs
      isplitl [Hb]; · iexact Hb
      iexact Hm
    icases H with ⟨He, Hrb, Hrs⟩
    isplitl [Hrb Hrs]
    · isplitl [Hrb]; · iexact Hrb
      iexact Hrs
    isplitl [Hlv]; · iexact Hlv
    isplitl [He]; · iexact He
    unfold owing
    iexists W
    isplitr
    · ipureintro; exact fun p hp => .inl hp
    · iexact HO
  refine hpre.trans ((sep_mono BIBase.Entails.rfl (task d L V0 hO fc ff)).trans ?_)
  refine (wp_frame_l frame _ _).trans (wp_mono frame _ _ fun _ => ?_)
  iintro ⟨⟨Hrb, Hrs⟩, He, HO⟩
  ihave H := (undeal d L V0 (meansOf V0) (dirsOf V0)) $$ [Hrb Hrs He]
  · isplitl [He]; · iexact He
    isplitl [Hrb]; · iexact Hrb
    iexact Hrs
  icases H with ⟨Hs, Hb, Hm⟩
  isplitl [Hs]; · iexact Hs
  isplitl [Hb]; · iexact Hb
  isplitl [Hm]; · iexact Hm
  unfold owing
  iexact HO

end Cert.Proof
-- ==== Proof.Main.lean ====
module

public import proofs.«01_k».proof.Proof.Launch
public import Idealize.ShloMosaic.Lib.StableHlo.Run

@[expose] public section

/-! The launch: what each task takes and returns, the host program around the call, the run and what it leaves. -/

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (m : (ℓ : Loc nD τ sig) → Buf (Elt F) ℓ) (ρ : Dev nD → PrngReg) (d : Dev nD)

open Idealize.ShloMosaic.StableHlo (held wp_hlo_within)

/-! ## What the tasks take and return -/

/-- The coordinates of the task on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev a0Loc : Loc nD τ sig := (SparseCore.T d).loc main_arg0
abbrev a1Loc : Loc nD τ sig := (SparseCore.T d).loc main_arg1
abbrev rLoc : Loc nD τ sig := (SparseCore.T d).loc main_v2

/-- The neighbours, flattened. -/
def flat : Vec F S16384x2048 .f32 := shapeCast S16384x2048 (m (a1Loc d) : Vec F S16384x128x8x2 .f32) shapeCasts_S16384x128x8x2_S16384x2048
/-- The results: the means by bins, the directions. -/
def means : Vec F S16384x24 .f32 := meansOf (flat m d)
def dirs : Vec F S16384x128 .f32 := dirsOf (flat m d)

/-- What a task takes; what it returns. -/
def before (c : Fin 2) (i : Fin 16) : sProp 𝕄 := share d (coordsV c i) (flat m d) (m (cLoc d)) (m (fLoc d))
def after (c : Fin 2) (i : Fin 16) : sProp 𝕄 := share d (coordsV c i) (flat m d) (means m d) (dirs m d)

instance before_storable (c : Fin 2) (i : Fin 16) : BI.Storable (upEmb : UEmb _ 𝕄) (before m d c i) := by unfold before; infer_instance
instance after_storable (c : Fin 2) (i : Fin 16) : BI.Storable (upEmb : UEmb _ 𝕄) (after m d c i) := by unfold after; infer_instance

/-- The call takes every task's rows and brings them back. -/
def P : (K (F := F)).Pay (nD := nD) (Val := Elt F) (Name := ℕ) (U := UU) where
  st := fun q d c => match q with | 0 => bigSep Finset.univ fun i : Fin 16 => before m d c i
  dn := fun q d c => match q with | 0 => bigSep Finset.univ fun i : Fin 16 => after m d c i
  go := fun q d c i => match q with | 0 => before m d c i
  td := fun q d c i => match q with | 0 => after m d c i
  x := fun _ _ => iprop(emp)

instance P_storable : (P (F := F) m).IsStorable where
  st q d c := match q with
    | 0 => (inferInstance : BI.Storable (upEmb : UEmb _ 𝕄) (bigSep Finset.univ fun i : Fin 16 => before m d c i))
  dn q d c := match q with
    | 0 => (inferInstance : BI.Storable (upEmb : UEmb _ 𝕄) (bigSep Finset.univ fun i : Fin 16 => after m d c i))
  go q d c i := match q with
    | 0 => (inferInstance : BI.Storable (upEmb : UEmb _ 𝕄) (before m d c i))
  td q d c i := match q with
    | 0 => (inferInstance : BI.Storable (upEmb : UEmb _ 𝕄) (after m d c i))

theorem defs₀_vector (c : Fin τ.nSC) (s : Fin τ.nSub) :
    defs₀ (F := F) (.scVector c s) 0 ()
      = SparseCore.onTile hcore0 hsub0 (fun c s => cc0_sc_kernel (coordsV c s) nW (Memref.isWhole_whole _) cW (Memref.isWhole_whole _)
          fW (Memref.isWhole_whole _) xW (Memref.isWhole_whole _) aW (Memref.isWhole_whole _) dW (Memref.isWhole_whole _) oW (Memref.isWhole_whole _)
          cc0_scratch4 cc0_scratch5 cc0_scoped0 cc0_scoped1 cc0_scoped2 cc0_scoped3) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts O W hO (flat m d) (m (cLoc d)) (m (fLoc d))).trans (wp_mono frame _ _ fun _ => obl_post)

theorem vecSplit : (K (F := F)).VecSplit' (P m) 0 := by
  intro d c
  show (bigSep Finset.univ fun i : Fin 16 => before m d c i) ⊢ |={Set.univ}=> iprop((bigSep Finset.univ fun i : Fin 16 => before m d c i)
      ∗ ((bigSep Finset.univ fun i : Fin 16 => after m d c i) -∗ bigSep Finset.univ fun i : Fin 16 => after m d c i))
  iintro H; imodintro
  isplitl [H]; · iexact H
  iintro H; iexact H

/-! ## The arrays as the tasks' rows -/

/-- The rows of the task on subcore `p.2` of SparseCore `p.1`. -/
abbrev part (n : Nat) (p : Fin 2 × Fin 16) : Finset (⟨2, ![16384, n]⟩ : Shape).Idx := mine (coordsV p.1 p.2) n

omit [FloatOps F] in
theorem mem_part {n : Nat} {p : Fin 2 × Fin 16} {x : (⟨2, ![16384, n]⟩ : Shape).Idx} :
    x ∈ part n p ↔ (p.2.val * 2 + p.1.val) * 512 ≤ (x 0).val ∧ (x 0).val < (p.2.val * 2 + p.1.val) * 512 + 512 := mem_rows

omit [FloatOps F] in
theorem parts_disjoint (n : Nat) : ∀ p ∈ (Finset.univ : Finset (Fin 2 × Fin 16)), ∀ p' ∈ (Finset.univ : Finset (Fin 2 × Fin 16)), p ≠ p' →
    Disjoint (part n p) (part n p') := by
  rintro ⟨c, i⟩ _ ⟨c', i'⟩ _ h
  refine Finset.disjoint_left.mpr fun x hx hx' => h ?_
  rw [mem_part] at hx hx'
  dsimp only at hx hx'
  have := c.isLt; have := c'.isLt
  refine Prod.ext (Fin.ext ?_) (Fin.ext ?_) <;> dsimp only <;> omega

omit [FloatOps F] in
theorem parts_cover (n : Nat) : (Finset.univ : Finset (Fin 2 × Fin 16)).biUnion (part n) = Finset.univ := by
  ext x
  have hx : (x 0).val < 16384 := (x 0).isLt
  refine iff_of_true (Finset.mem_biUnion.mpr ⟨(⟨(x 0).val / 512 % 2, Nat.mod_lt _ (by decide)⟩, ⟨(x 0).val / 1024, by omega⟩), Finset.mem_univ _, ?_⟩)
    (Finset.mem_univ _)
  rw [mem_part]; dsimp only; omega

omit [FloatOps F] in
theorem nPts (f : Vec F S16384x2048 .f32) : (nLoc d ↦{fullShare} f : sProp 𝕄)
    = bigSep Finset.univ fun c : Fin 2 => bigSep Finset.univ fun i : Fin 16 => nLoc d ↦[mine (coordsV c i) 2048]{fullShare} f := by
  rw [← bigSep_univ_prod fun p : Fin 2 × Fin 16 => (nLoc d ↦[part 2048 p]{fullShare} f : sProp 𝕄),
    ← pointsTo_biUnion Finset.univ (ℓ := nLoc d) (part 2048) (parts_disjoint 2048), parts_cover]; try rfl
omit [FloatOps F] in
theorem cPts (f : Vec F S16384x24 .f32) : (cLoc d ↦{fullShare} f : sProp 𝕄)
    = bigSep Finset.univ fun c : Fin 2 => bigSep Finset.univ fun i : Fin 16 => cLoc d ↦[mine (coordsV c i) 24]{fullShare} f := by
  rw [← bigSep_univ_prod fun p : Fin 2 × Fin 16 => (cLoc d ↦[part 24 p]{fullShare} f : sProp 𝕄),
    ← pointsTo_biUnion Finset.univ (ℓ := cLoc d) (part 24) (parts_disjoint 24), parts_cover]; try rfl
omit [FloatOps F] in
theorem fPts (f : Vec F S16384x128 .f32) : (fLoc d ↦{fullShare} f : sProp 𝕄)
    = bigSep Finset.univ fun c : Fin 2 => bigSep Finset.univ fun i : Fin 16 => fLoc d ↦[mine (coordsV c i) 128]{fullShare} f := by
  rw [← bigSep_univ_prod fun p : Fin 2 × Fin 16 => (fLoc d ↦[part 128 p]{fullShare} f : sProp 𝕄),
    ← pointsTo_biUnion Finset.univ (ℓ := fLoc d) (part 128) (parts_disjoint 128), parts_cover]; try rfl

omit [FloatOps F] in
theorem shares (V0 : Vec F S16384x2048 .f32) (fc : Vec F S16384x24 .f32) (ff : Vec F S16384x128 .f32) :
    (bigSep Finset.univ fun c : Fin 2 => bigSep Finset.univ fun i : Fin 16 => (share d (coordsV c i) V0 fc ff : sProp 𝕄))
      = iprop((nLoc d ↦{fullShare} V0) ∗ (cLoc d ↦{fullShare} fc) ∗ fLoc d ↦{fullShare} ff) := by
  unfold share
  rw [nPts, cPts, fPts]
  simp only [bigSep_sep']

theorem st0_eq : (bigSep Finset.univ fun c : Fin ((K (F := F)).nCore 0) => (P m).st 0 d c)
    = iprop((nLoc d ↦{fullShare} flat m d) ∗ (cLoc d ↦{fullShare} m (cLoc d)) ∗ fLoc d ↦{fullShare} m (fLoc d)) :=
  shares d (flat m d) (m (cLoc d)) (m (fLoc d))
theorem dn0_eq : (bigSep Finset.univ fun c : Fin ((K (F := F)).nCore 0) => (P m).dn 0 d c)
    = iprop((nLoc d ↦{fullShare} flat m d) ∗ (cLoc d ↦{fullShare} means m d) ∗ fLoc d ↦{fullShare} dirs m d) :=
  shares d (flat m d) (means m d) (dirs m d)

/-! ## The ghost state at the start -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program -/

abbrev a0' : DevRef τ sig := Proc.devRef .tc (main_arg0 : Ref sig .tc)
abbrev a1' : DevRef τ sig := Proc.devRef .tc (main_arg1 : Ref sig .tc)
abbrev n' : DevRef τ sig := Proc.devRef .tc (main_v0 : Ref sig .tc)
abbrev c' : DevRef τ sig := Proc.devRef .tc (main_v1_0 : Ref sig .tc)
abbrev f' : DevRef τ sig := Proc.devRef .tc (main_v1_1 : Ref sig .tc)
abbrev r' : DevRef τ sig := Proc.devRef .tc (main_v2 : Ref sig .tc)

abbrev opA : HloOp τ sig (Elt F) := StableHlo.reshape main_arg1 main_v0 (rfl : (.f32 : EltTy) = .f32) shapeCasts_S16384x128x8x2_S16384x2048
abbrev opB : HloOp τ sig (Elt F) := StableHlo.reshape main_v1_0 main_v2 (rfl : (.f32 : EltTy) = .f32) shapeCasts_S16384x24_S16384x8x3

/-- The host's arrays. -/
abbrev S6 : Finset (DevRef τ sig) := {a0', a1', n', c', f', r'}

/-- Their contents at the start, after the first reshape, after the call, at the end. -/
def V1 : Valuation τ sig (Elt F) := fun b => m (d, b)
def V2 : Valuation τ sig (Elt F) := (opA (F := F)).result (V1 m d)
def V3 : Valuation τ sig (Elt F) := Function.update (Function.update (V2 m d) c' (means m d)) f' (dirs m d)
def V4 : Valuation τ sig (Elt F) := (opB (F := F)).result (V3 m d)

/-- The first result at its shape. -/
def shaped : Vec F S16384x8x3 .f32 := shapeCast S16384x8x3 (means m d) shapeCasts_S16384x24_S16384x8x3

omit [FloatOps F] in
theorem held_S6 (W : Valuation τ sig (Elt F)) :
    (held (T d) S6 W : sProp 𝕄) = iprop((a0Loc d ↦{fullShare} W a0') ∗ (a1Loc d ↦{fullShare} W a1') ∗ (nLoc d ↦{fullShare} W n')
      ∗ (cLoc d ↦{fullShare} W c') ∗ (fLoc d ↦{fullShare} W f') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (nLoc d ↦{fullShare} W main_v0)
      ∗ (cLoc d ↦{fullShare} W main_v1_0) ∗ (fLoc d ↦{fullShare} W main_v1_1) ∗ rLoc d ↦{fullShare} W main_v2) := by
  unfold unscopedBufs
  rw [show (Finset.univ.filter fun b : Ref sig .tc => ¬ b.isScoped) = {main_arg0, main_arg1, main_v0, main_v1_0, main_v1_1, main_v2} by decide,
    SparseCore.bigSep_insert' (by decide), SparseCore.bigSep_insert' (by decide), SparseCore.bigSep_insert' (by decide),
    SparseCore.bigSep_insert' (by decide), SparseCore.bigSep_insert' (by decide), bigSep_singleton]

theorem unscoped_held : (unscopedBufs d (fun b => m ((SparseCore.T d).loc b)) : sProp 𝕄) = held (T d) S6 (V1 m d) := by
  rw [unscopedBufs_eq, held_S6]; rfl

theorem V2_n : V2 m d n' = flat m d := StableHlo.reshape_result main_arg1 main_v0 rfl shapeCasts_S16384x128x8x2_S16384x2048 _ _ _
theorem V2_of (b : DevRef τ sig) (hb : b ∉ ({n'} : Finset (DevRef τ sig))) : V2 m d b = m (d, b) := (opA (F := F)).result_of_not_mem (V1 m d) hb

theorem held_V2 : (held (T d) S6 ((opA (F := F)).result (V1 m d)) : sProp 𝕄) = iprop((a0Loc d ↦{fullShare} m (a0Loc d)) ∗ (a1Loc d ↦{fullShare} m (a1Loc d))
    ∗ (nLoc d ↦{fullShare} flat m d) ∗ (cLoc d ↦{fullShare} m (cLoc d)) ∗ (fLoc d ↦{fullShare} m (fLoc d)) ∗ rLoc d ↦{fullShare} m (rLoc d)) := by
  change (held (T d) S6 (V2 m d) : sProp 𝕄) = _
  rw [held_S6, V2_n, V2_of m d a0' (by decide), V2_of m d a1' (by decide), V2_of m d c' (by decide), V2_of m d f' (by decide), V2_of m d r' (by decide)]

theorem V3_f : V3 m d f' = dirs m d := Function.update_self _ _ _
theorem V3_c : V3 m d c' = means m d := (Function.update_of_ne (show c' ≠ f' by decide) _ _).trans (Function.update_self _ _ _)
theorem V3_of (b : DevRef τ sig) (hf : b ≠ f') (hc : b ≠ c') : V3 m d b = V2 m d b := (Function.update_of_ne hf _ _).trans (Function.update_of_ne hc _ _)

theorem held_V3 : (held (T d) S6 (V3 m d) : sProp 𝕄) = iprop((a0Loc d ↦{fullShare} m (a0Loc d)) ∗ (a1Loc d ↦{fullShare} m (a1Loc d))
    ∗ (nLoc d ↦{fullShare} flat m d) ∗ (cLoc d ↦{fullShare} means m d) ∗ (fLoc d ↦{fullShare} dirs m d) ∗ rLoc d ↦{fullShare} m (rLoc d)) := by
  rw [held_S6, V3_f, V3_c, V3_of m d n' (by decide) (by decide), V2_n, V3_of m d a0' (by decide) (by decide), V2_of m d a0' (by decide),
    V3_of m d a1' (by decide) (by decide), V2_of m d a1' (by decide), V3_of m d r' (by decide) (by decide), V2_of m d r' (by decide)]

theorem V4_r : V4 m d r' = shaped m d := by
  refine (StableHlo.reshape_result main_v1_0 main_v2 rfl shapeCasts_S16384x24_S16384x8x3 _ _ _).trans ?_
  have e : V3 m d (Proc.devRef .tc (main_v1_0 : Ref sig .tc)) = means m d := V3_c m d
  rw [e]; rfl
theorem V4_of (b : DevRef τ sig) (hb : b ∉ ({r'} : Finset (DevRef τ sig))) : V4 m d b = V3 m d b := (opB (F := F)).result_of_not_mem (V3 m d) hb

/-- What the host program leaves: the arguments and the two results. -/
def FIN : sProp 𝕄 := iprop((a0Loc d ↦{fullShare} m (a0Loc d)) ∗ (a1Loc d ↦{fullShare} m (a1Loc d)) ∗ (rLoc d ↦{fullShare} shaped m d)
  ∗ fLoc d ↦{fullShare} dirs m d)

theorem held_V4 : (held (T d) S6 ((opB (F := F)).result (V3 m d)) : sProp 𝕄) ⊢ FIN m d := by
  change (held (T d) S6 (V4 m d) : sProp 𝕄) ⊢ _
  rw [held_S6, V4_r, V4_of m d f' (by decide), V3_f, V4_of m d a0' (by decide), V3_of m d a0' (by decide) (by decide), V2_of m d a0' (by decide),
    V4_of m d a1' (by decide), V3_of m d a1' (by decide) (by decide), V2_of m d a1' (by decide)]
  unfold FIN
  iintro ⟨H0, H1, -, -, Hf, Hr⟩
  isplitl [H0]; · iexact H0
  isplitl [H1]; · iexact H1
  isplitl [Hr]; · iexact Hr
  iexact Hf

theorem hA : (opA (F := F)).bufs ⊆ S6 := show ({a1', n'} : Finset (DevRef τ sig)) ⊆ S6 by decide
theorem hB : (opB (F := F)).bufs ⊆ S6 := show ({c', r'} : Finset (DevRef τ sig)) ⊆ S6 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S6) hA (V := V1 m d)) $$ [Hb Hheld]
  · isplitl [Hb]; · iexact Hb
    iexact Hheld
  iintro ⟨Hb, Hheld⟩
  ihave Hh := (Entails.of_eq (held_V2 m d)) $$ Hheld
  icases Hh with ⟨H0, H1, Hn, Hc, Hf, Hr⟩
  rw [wp_ret]; imodintro
  iapply ((K (F := F)).wp_run (D (F := F)) 𝒱 (EH := EH) (P := P m) κ d 0) $$ [Hst H0 H1 Hn Hc Hf Hr Hb Hts]
  isplitr; · iexact Hctx
  isplitl [Hst]; · iexact Hst
  isplitl [Hn Hc Hf]
  · rw [st0_eq]
    isplitl [Hn]; · iexact Hn
    isplitl [Hc]; · iexact Hc
    iexact Hf
  iintro ⟨Hst, Hdn⟩
  ihave Hdn' := (Entails.of_eq (dn0_eq m d)) $$ Hdn
  icases Hdn' with ⟨Hn, Hc, Hf⟩
  iapply (wp_hlo_within 𝒱 (SparseCore.T d) none Set.univ (op := opB) (S := S6) hB (V := V3 m d)) $$ [Hb H0 H1 Hn Hc Hf Hr]
  · isplitl [Hb]; · iexact Hb
    rw [held_V3]
    isplitl [H0]; · iexact H0
    isplitl [H1]; · iexact H1
    isplitl [Hn]; · iexact Hn
    isplitl [Hc]; · iexact Hc
    isplitl [Hf]; · iexact Hf
    iexact Hr
  iintro ⟨Hb, Hheld⟩
  ihave Hfin := (held_V4 m d) $$ Hheld
  rw [wp_ret]; imodintro; imodintro
  isplitl [Hst]; · iexact Hst
  isplitl [Hfin]; · iexact Hfin
  isplitl [Hb] <;> iassumption

/-! ## The run -/

def fq (d : Dev nD) (s' : Phys nD τ sig (Elt F)) : Prop :=
  s'.mem.mem (a0Loc d) = m (a0Loc d) ∧ s'.mem.mem (a1Loc d) = m (a1Loc d) ∧ s'.mem.mem (rLoc d) = shaped m d ∧ s'.mem.mem (fLoc d) = dirs m d

theorem hfin (d : Dev nD) (s' : Phys nD τ sig (Elt F)) : iprop(FIN m d ∗ SI s') ⊢ (⌜fq m d s'⌝ : sProp 𝕄) := by
  unfold FIN
  iintro ⟨⟨H0, H1, Hr, Hf⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := rLoc d) (I := Finset.univ) (q := fullShare) (f := shaped m d))) $$ [HSI Hr]
  · isplitl [HSI] <;> iassumption
  icases H with ⟨%hr, HSI, -⟩
  ihave H := (SI_pointsTo_agree (st := s') (ℓ := fLoc d) (I := Finset.univ) (q := fullShare) (f := dirs m d)) $$ [HSI Hf]
  · isplitl [HSI] <;> iassumption
  icases H with %hf
  ipureintro
  exact ⟨funext fun i => h0 i (Finset.mem_univ i), funext fun i => h1 i (Finset.mem_univ i), funext fun i => hr i (Finset.mem_univ i),
    funext fun i => hf i (Finset.mem_univ i)⟩

/-- Every device ends with its arguments unchanged and its results the ones named; every semaphore at zero. -/
def QC : PUnit × MemSt nD τ sig (Elt F) → Prop := fun r => (∀ c : Dev nD,
    r.2.mem (a0Loc c) = m (a0Loc c) ∧ r.2.mem (a1Loc c) = m (a1Loc c) ∧ r.2.mem (rLoc c) = shaped m c ∧ r.2.mem (fLoc c) = dirs m c)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Frames.lean ====
module

public import proofs.«01_k».proof.Defs
public import proofs.«01_k».proof.Proof.Main
public import proofs.«01_k».proof.Proof.Gen.Kernel
public import proofs.«01_k».proof.Proof.Gen.ReferenceIdeal.Run

@[expose] public section

/-! The three frames: each program runs, its arguments end unchanged, every semaphore ends at zero. -/

noncomputable section

namespace Cert.Proof

open Idealize.ShloMosaic Idealize.SL.Sem

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_reference : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩) (Cert.ReferenceIdeal.Value.run (F := Ideal) m ρ)

end Cert.Proof
-- ==== Proof.Arith.lean ====
module

public import proofs.«01_k».proof.Proof.Body
public import Idealize.ShloMosaic.Lib.IdealHost

@[expose] public section

/-! The direction of one neighbour over the extended reals: the program's arctangent and the reference's are one real
    number, at least zero and less than a turn, and the bins they name are one number below eight. -/

noncomputable section

namespace Cert.Proof

open Cert.KernelIdeal Cert.KernelIdeal.Gen
open Idealize.ShloMosaic

/-! ## The constants -/

/-- The number a pattern denotes. -/
abbrev cst (b : BitVec 32) : EReal := Ideal.ofBits .f32 b

def c9 : ℝ := -(14786047 / 8589934592)
theorem cst_c9 : cst 0xBAE19DFF#32 = ((c9 : ℝ) : EReal) := by
  simp [cst, Ideal.ofBits, Ideal.ieee, c9, -EReal.coe_mul]; norm_num

def c8 : ℝ := (5660861 / 536870912)
theorem cst_c8 : cst 0x3C2CC17A#32 = ((c8 : ℝ) : EReal) := by
  simp [cst, Ideal.ofBits, Ideal.ieee, c8, -EReal.coe_mul]; norm_num

def c7 : ℝ := -(16312407 / 536870912)
theorem cst_c7 : cst 0xBCF8E857#32 = ((c7 : ℝ) : EReal) := by
  simp [cst, Ideal.ofBits, Ideal.ieee, c7, -EReal.coe_mul]; norm_num

def c6 : ℝ := (7654979 / 134217728)
theorem cst_c6 : cst 0x3D699C86#32 = ((c6 : ℝ) : EReal) := by
  simp [cst, Ideal.ofBits, Ideal.ieee, c6, -EReal.coe_mul]; norm_num

def c5 : ℝ := -(11193799 / 134217728)
theorem cst_c5 : cst 0xBDAACDC7#32 = ((c5 : ℝ) : EReal) := by
  simp [cst, Ideal.ofBits, Ideal.ieee, c5, -EReal.coe_mul]; norm_num

def c4 : ℝ := (14664731 / 134217728)
theorem cst_c4 : cst 0x3DDFC41B#32 = ((c4 : ℝ) : EReal) := by
  simp [cst, Ideal.ofBits, Ideal.ieee, c4, -EReal.coe_mul]; norm_num

def c3 : ℝ := -(9568377 / 67108864)
theorem cst_c3 : cst 0xBE120079#32 = ((c3 : ℝ) : EReal) := by
  simp [cst, Ideal.ofBits, Ideal.ieee, c3, -EReal.coe_mul]; norm_num

def c2 : ℝ := (13420263 / 67108864)
theorem cst_c2 : cst 0x3E4CC6E7#32 = ((c2 : ℝ) : EReal) := by
  simp [cst, Ideal.ofBits, Ideal.ieee, c2, -EReal.coe_mul]; norm_num

def c1 : ℝ := -(699049 / 2097152)
theorem cst_c1 : cst 0xBEAAAA90#32 = ((c1 : ℝ) : EReal) := by
  simp [cst, Ideal.ofBits, Ideal.ieee, c1, -EReal.coe_mul]; norm_num

def halfPi : ℝ := (13176795 / 8388608)
theorem cst_halfPi : cst 0x3FC90FDB#32 = ((halfPi : ℝ) : EReal) := by
  simp [cst, Ideal.ofBits, Ideal.ieee, halfPi, -EReal.coe_mul]; norm_num

def onePi : ℝ := (13176795 / 4194304)
theorem cst_onePi : cst 0x40490FDB#32 = ((onePi : ℝ) : EReal) := by
  simp [cst, Ideal.ofBits, Ideal.ieee, onePi, -EReal.coe_mul]; norm_num

def twoPi : ℝ := (13176795 / 2097152)
theorem cst_twoPi : cst 0x40C90FDB#32 = ((twoPi : ℝ) : EReal) := by
  simp [cst, Ideal.ofBits, Ideal.ieee, twoPi, -EReal.coe_mul]; norm_num

def binWidth : ℝ := (13176795 / 16777216)
theorem cst_binWidth : cst 0x3F490FDB#32 = ((binWidth : ℝ) : EReal) := by
  simp [cst, Ideal.ofBits, Ideal.ieee, binWidth, -EReal.coe_mul]; norm_num

/-! ## Comparisons and choices -/

theorem sel_pos {α : Type} {P : Prop} [Decidable P] (h : P) (a b : α) : Scalar.select (BitVec.ofBool (decide P)) a b = a := by
  simp [Scalar.select, h]
theorem sel_neg {α : Type} {P : Prop} [Decidable P] (h : ¬P) (a b : α) : Scalar.select (BitVec.ofBool (decide P)) a b = b := by
  simp [Scalar.select, h]

/-- The magnitude. -/
abbrev mag (x : EReal) : EReal := max x (-x)

theorem mag_nonneg (x : EReal) : 0 ≤ mag x := by
  rcases le_total 0 x with h | h
  · exact le_max_of_le_left h
  · exact le_max_of_le_right (EReal.neg_nonneg.mpr h)

theorem mag_eq_zero (x : EReal) : mag x = 0 ↔ x = 0 := by
  constructor
  · intro h
    have h1 : x ≤ 0 := h ▸ le_max_left x (-x)
    have h2 : -x ≤ 0 := h ▸ le_max_right x (-x)
    exact le_antisymm h1 (by rw [← EReal.neg_le_neg_iff, neg_zero]; exact h2)
  · rintro rfl; simp [mag]

/-! ## The ratio of the smaller coordinate to the larger -/

theorem div_unit (a b : EReal) (ha : 0 ≤ a) (hab : a ≤ b) (hb : b ≠ 0) : ∃ t : ℝ, 0 ≤ t ∧ t ≤ 1 ∧ Ideal.div a b = (t : EReal) := by
  rw [Ideal.div, if_neg hb]
  induction b with
  | bot => exact absurd (le_antisymm (hab.trans bot_le) ha ▸ hab) (by simp)
  | top => exact ⟨0, le_rfl, zero_le_one, by simp⟩
  | coe b =>
    induction a with
    | bot => exact absurd ha (by simp)
    | top => exact absurd hab (by simp)
    | coe a =>
      have ha' : 0 ≤ a := by exact_mod_cast ha
      have hab' : a ≤ b := by exact_mod_cast hab
      have hb' : b ≠ 0 := by exact_mod_cast hb
      have hb0 : 0 < b := lt_of_le_of_ne (ha'.trans hab') (Ne.symm hb')
      refine ⟨a * b⁻¹, by positivity, ?_, by rw [EReal.coe_mul, EReal.coe_inv]⟩
      rw [← div_eq_mul_inv]; exact (div_le_one hb0).mpr hab'

/-- The program's ratio and the reference's. -/
def kRatio (p q : EReal) : EReal :=
  Scalar.select (Ideal.cmp .oeq (max (mag p) (mag q)) (cst 0x00000000#32)) (cst 0x00000000#32) (Ideal.div (min (mag p) (mag q)) (max (mag p) (mag q)))
def rRatio (p q : EReal) : EReal :=
  Scalar.select (Ideal.cmp .ogt (mag q) (mag p)) (Ideal.div (mag p) (mag q))
    (Scalar.select (Ideal.cmp .oeq p (cst 0x00000000#32)) (cst 0x00000000#32) (Ideal.div (mag q) (mag p)))

theorem ratio (p q : EReal) : ∃ t : ℝ, 0 ≤ t ∧ t ≤ 1 ∧ kRatio p q = (t : EReal) ∧ rRatio p q = (t : EReal) := by
  have z : cst 0x00000000#32 = 0 := Ideal.ofBits_zero_f32
  unfold kRatio rRatio Ideal.cmp
  rw [z]
  dsimp only
  by_cases h : mag p < mag q
  · have hq : mag q ≠ 0 := ((mag_nonneg p).trans_lt h).ne'
    obtain ⟨t, h0, h1, e⟩ := div_unit (mag p) (mag q) (mag_nonneg p) h.le hq
    refine ⟨t, h0, h1, ?_, ?_⟩
    · rw [max_eq_right h.le, min_eq_left h.le, sel_neg hq, e]
    · rw [sel_pos h, e]
  · have h' := not_lt.mp h
    rw [max_eq_left h', min_eq_right h', sel_neg h]
    by_cases hp : p = 0
    · refine ⟨0, le_rfl, zero_le_one, ?_, ?_⟩
      · rw [sel_pos ((mag_eq_zero p).mpr hp)]; rfl
      · rw [sel_pos hp]; rfl
    · have hp' : mag p ≠ 0 := fun e => hp ((mag_eq_zero p).mp e)
      obtain ⟨t, h0, h1, e⟩ := div_unit (mag q) (mag p) (mag_nonneg q) h' hp'
      exact ⟨t, h0, h1, by rw [sel_neg hp', e], by rw [sel_neg hp, e]⟩

/-! ## The arctangent's series -/

/-- The series as the reference sums it, at the square `u`. -/
def series (u : ℝ) : ℝ :=
  ((((((((c9 * u + c8) * u + c7) * u + c6) * u + c5) * u + c4) * u + c3) * u + c2) * u + c1) * u + 1

theorem step_le {h u c B D : ℝ} (hu : 0 ≤ u) (hu' : u ≤ 1) (hh : |h| ≤ B) (hc : |c| ≤ D) : |h * u + c| ≤ B + D := by
  refine (abs_add_le _ _).trans (add_le_add ?_ hc)
  rw [abs_mul, abs_of_nonneg hu]
  calc |h| * u ≤ |h| * 1 := mul_le_mul_of_nonneg_left hu' (abs_nonneg _)
    _ ≤ B := by rwa [mul_one]

theorem series_le (u : ℝ) (hu : 0 ≤ u) (hu' : u ≤ 1) : |series u| ≤ 2 := by
  have b9 : |c9| ≤ 1 / 500 := by rw [abs_le]; unfold c9; constructor <;> norm_num
  have b8 : |c8| ≤ 11 / 1000 := by rw [abs_le]; unfold c8; constructor <;> norm_num
  have b7 : |c7| ≤ 31 / 1000 := by rw [abs_le]; unfold c7; constructor <;> norm_num
  have b6 : |c6| ≤ 58 / 1000 := by rw [abs_le]; unfold c6; constructor <;> norm_num
  have b5 : |c5| ≤ 84 / 1000 := by rw [abs_le]; unfold c5; constructor <;> norm_num
  have b4 : |c4| ≤ 110 / 1000 := by rw [abs_le]; unfold c4; constructor <;> norm_num
  have b3 : |c3| ≤ 143 / 1000 := by rw [abs_le]; unfold c3; constructor <;> norm_num
  have b2 : |c2| ≤ 200 / 1000 := by rw [abs_le]; unfold c2; constructor <;> norm_num
  have b1 : |c1| ≤ 334 / 1000 := by rw [abs_le]; unfold c1; constructor <;> norm_num
  have b0 : |(1 : ℝ)| ≤ 1 := by simp
  refine (step_le hu hu' (step_le hu hu' (step_le hu hu' (step_le hu hu' (step_le hu hu' (step_le hu hu' (step_le hu hu'
    (step_le hu hu' (step_le hu hu' b9 b8) b7) b6) b5) b4) b3) b2) b1) b0).trans ?_
  norm_num

/-- The program sums the same series by pairs. -/
theorem by_pairs (a0 a1 a2 a3 a4 a5 a6 a7 a8 a9 u : ℝ) :
    (a0 + a1 * u + (a2 + a3 * u) * (u * u) + (a4 + a5 * u + (a6 + a7 * u) * (u * u)) * (u * u * (u * u)))
        + (a8 + a9 * u) * (u * u * (u * u) * (u * u * (u * u)))
      = ((((((((a9 * u + a8) * u + a7) * u + a6) * u + a5) * u + a4) * u + a3) * u + a2) * u + a1) * u + a0 := by
  ring

/-- The arctangent of `z`, as the program sums it and as the reference does. -/
def kAtan (z : EReal) : EReal :=
  let u := z * z
  let u2 := u * u
  let u4 := u2 * u2
  let u8 := u4 * u4
  (((cst 0x3F800000#32 + cst 0xBEAAAA90#32 * u) + (cst 0x3E4CC6E7#32 + cst 0xBE120079#32 * u) * u2)
    + ((cst 0x3DDFC41B#32 + cst 0xBDAACDC7#32 * u) + (cst 0x3D699C86#32 + cst 0xBCF8E857#32 * u) * u2) * u4
    + (cst 0x3C2CC17A#32 + cst 0xBAE19DFF#32 * u) * u8) * z
def rAtan (z : EReal) : EReal :=
  let u := z * z
  z * (((((((((cst 0xBAE19DFF#32 * u + cst 0x3C2CC17A#32) * u + cst 0xBCF8E857#32) * u + cst 0x3D699C86#32) * u + cst 0xBDAACDC7#32) * u
    + cst 0x3DDFC41B#32) * u + cst 0xBE120079#32) * u + cst 0x3E4CC6E7#32) * u + cst 0xBEAAAA90#32) * u + cst 0x3F800000#32)

theorem cst_one : cst 0x3F800000#32 = ((1 : ℝ) : EReal) := by rw [cst, Ideal.ofBits_one_f32]; rfl

theorem rAtan_eq (t : ℝ) : rAtan (t : EReal) = ((t * series (t * t) : ℝ) : EReal) := by
  unfold rAtan series
  simp only [cst_c9, cst_c8, cst_c7, cst_c6, cst_c5, cst_c4, cst_c3, cst_c2, cst_c1, cst_one, ← EReal.coe_mul, ← EReal.coe_add]

theorem kAtan_eq (t : ℝ) : kAtan (t : EReal) = ((t * series (t * t) : ℝ) : EReal) := by
  unfold kAtan series
  simp only [cst_c9, cst_c8, cst_c7, cst_c6, cst_c5, cst_c4, cst_c3, cst_c2, cst_c1, cst_one, ← EReal.coe_mul, ← EReal.coe_add]
  rw [by_pairs, mul_comm]

/-! ## The octants and the turn -/

/-- The angle before the turn, from the arctangent `a`: the reflections by octant, quadrant. -/
def quad (p q a : EReal) : EReal :=
  let b := Scalar.select (Ideal.cmp .ogt (mag q) (mag p)) (cst 0x3FC90FDB#32 - a) a
  Scalar.select (Ideal.cmp .olt p (cst 0x00000000#32)) (cst 0x40490FDB#32 - b) b

def kDir (p q : EReal) : EReal :=
  let b := quad p q (kAtan (kRatio p q))
  let a := Scalar.select (Ideal.cmp .olt q (cst 0x00000000#32)) (cst 0x00000000#32 - b) b
  Scalar.select (Ideal.cmp .olt a (cst 0x00000000#32)) (a + cst 0x40C90FDB#32) a

def rDir (p q : EReal) : EReal :=
  let b := quad p q (rAtan (rRatio p q))
  let r := Ideal.remf (Scalar.select (Ideal.cmp .olt q (cst 0x00000000#32)) (-b) b) (cst 0x40C90FDB#32)
  Scalar.select (IntOp.andi (IntOp.cmpi .ne (Ideal.cmp .olt r (cst 0x00000000#32)) (Ideal.cmp .olt (cst 0x40C90FDB#32) (cst 0x00000000#32)))
    (Ideal.cmp .une r (cst 0x00000000#32))) (r + cst 0x40C90FDB#32) r

theorem quad_real (p q : EReal) (a : ℝ) (ha : |a| ≤ 2) : ∃ b : ℝ, |b| ≤ 6 ∧ quad p q (a : EReal) = (b : EReal) := by
  have h1 := (abs_le.mp ha).1
  have h2 := (abs_le.mp ha).2
  have hh : (3 / 2 : ℝ) ≤ halfPi ∧ halfPi ≤ 8 / 5 := by unfold halfPi; constructor <;> norm_num
  have hp : (3 : ℝ) ≤ onePi ∧ onePi ≤ 16 / 5 := by unfold onePi; constructor <;> norm_num
  unfold quad Ideal.cmp
  dsimp only
  rw [cst_halfPi, cst_onePi, ← EReal.coe_sub]
  have e1 : ∃ b : ℝ, -2 ≤ b ∧ b ≤ 18 / 5 ∧ Scalar.select (BitVec.ofBool (decide (mag p < mag q))) ((halfPi - a : ℝ) : EReal) (a : EReal) = (b : EReal) := by
    by_cases h : mag p < mag q
    · exact ⟨halfPi - a, by linarith [hh.1], by linarith [hh.2], sel_pos h _ _⟩
    · exact ⟨a, h1, by linarith, sel_neg h _ _⟩
  obtain ⟨b, hb1, hb2, eb⟩ := e1
  rw [eb, ← EReal.coe_sub]
  by_cases h : p < cst 0x00000000#32
  · exact ⟨onePi - b, abs_le.mpr ⟨by linarith [hp.1], by linarith [hp.2]⟩, sel_pos h _ _⟩
  · exact ⟨b, abs_le.mpr ⟨by linarith, by linarith⟩, sel_neg h _ _⟩

theorem remf_small (a : ℝ) (ha : |a| ≤ 6) : Ideal.remf (a : EReal) ((twoPi : ℝ) : EReal) = (a : EReal) := by
  have ht : (6 : ℝ) < twoPi := by unfold twoPi; norm_num
  have h1 := (abs_le.mp ha).1
  have h2 := (abs_le.mp ha).2
  have e : Ideal.truncInt (a / twoPi) = 0 := by
    unfold Ideal.truncInt
    split
    · next h => rw [Int.floor_eq_zero_iff]; exact ⟨h, (div_lt_one (by linarith)).mpr (by linarith)⟩
    · next h =>
      rw [Int.ceil_eq_iff]
      refine ⟨?_, by push_cast; linarith⟩
      push_cast
      rw [zero_sub, lt_div_iff₀ (by linarith)]; linarith
  rw [Ideal.remf_coe, if_neg (by linarith), e]
  simp

theorem bits_ne (a b : Prop) [Decidable a] [Decidable b] {α : Type} (hb : ¬b) (c : Prop) [Decidable c] (hc : a → c) (x y : α) :
    Scalar.select (IntOp.andi (IntOp.cmpi .ne (BitVec.ofBool (decide a)) (BitVec.ofBool (decide b))) (BitVec.ofBool (decide c))) x y = if a then x else y := by
  by_cases ha : a
  · simp [Scalar.select, IntOp.andi, IntOp.cmpi, ha, hb, hc ha]
  · simp [Scalar.select, IntOp.andi, IntOp.cmpi, ha, hb]

/-- The two directions are one real number, in a turn. -/
theorem dir_eq (p q : EReal) : ∃ r : ℝ, 0 ≤ r ∧ r < twoPi ∧ kDir p q = (r : EReal) ∧ rDir p q = (r : EReal) := by
  obtain ⟨t, h0, h1, ek, er⟩ := ratio p q
  have hs : |t * series (t * t)| ≤ 2 := by
    rw [abs_mul, abs_of_nonneg h0]
    calc t * |series (t * t)| ≤ 1 * 2 := mul_le_mul h1 (series_le _ (mul_nonneg h0 h0) (mul_le_one₀ h1 h0 h1)) (abs_nonneg _) zero_le_one
      _ = 2 := one_mul _
  obtain ⟨b, hb, eb⟩ := quad_real p q _ hs
  have ht : (6 : ℝ) < twoPi := by unfold twoPi; norm_num
  have z : cst 0x00000000#32 = ((0 : ℝ) : EReal) := Ideal.ofBits_zero_f32
  have hsel : ∃ a : ℝ, |a| ≤ 6 ∧ Scalar.select (BitVec.ofBool (decide (q < ((0 : ℝ) : EReal)))) ((-b : ℝ) : EReal) (b : EReal) = (a : EReal) := by
    by_cases h : q < ((0 : ℝ) : EReal)
    · exact ⟨-b, by rwa [abs_neg], sel_pos h _ _⟩
    · exact ⟨b, hb, sel_neg h _ _⟩
  obtain ⟨a, ha, ea⟩ := hsel
  have h1 := (abs_le.mp ha).1
  have h2 := (abs_le.mp ha).2
  refine ⟨if a < 0 then a + twoPi else a, ?_, ?_, ?_, ?_⟩
  · split <;> linarith
  · split <;> linarith
  · unfold kDir Ideal.cmp
    dsimp only
    rw [ek, kAtan_eq, eb, z, cst_twoPi, ← EReal.coe_sub, zero_sub, ea, ← EReal.coe_add]
    by_cases h : a < 0
    · rw [if_pos h]; exact sel_pos (EReal.coe_lt_coe_iff.mpr h) _ _
    · rw [if_neg h]; exact sel_neg (fun e => h (EReal.coe_lt_coe_iff.mp e)) _ _
  · unfold rDir Ideal.cmp
    dsimp only
    rw [er, rAtan_eq, eb, z, cst_twoPi, ← EReal.coe_neg, ea, remf_small a ha, ← EReal.coe_add,
      bits_ne _ _ (fun e => by have := EReal.coe_lt_coe_iff.mp e; linarith) _ (fun e => ne_of_lt e)]
    by_cases h : a < 0
    · rw [if_pos h, if_pos (EReal.coe_lt_coe_iff.mpr h)]
    · rw [if_neg h, if_neg (fun e => h (EReal.coe_lt_coe_iff.mp e))]

/-! ## The bin -/

/-- The bin before the program's clamp, and after it. -/
def binOfDir (x : EReal) : BitVec 32 := Ideal.fptosi 32 (Ideal.div x (cst 0x3F490FDB#32))
def clampBin (b : BitVec 32) : BitVec 32 := IntOp.minsi (IntOp.maxsi b 0#32) 8#32

theorem binOfDir_lt (r : ℝ) (h0 : 0 ≤ r) (h1 : r < twoPi) : ∃ n : Nat, n < 8 ∧ binOfDir (r : EReal) = BitVec.ofNat 32 n := by
  have hw : 0 < binWidth := by unfold binWidth; norm_num
  have h8 : twoPi = 8 * binWidth := by unfold twoPi binWidth; norm_num
  have hq : 0 ≤ r * (1 / binWidth) := by positivity
  have hq8 : r * (1 / binWidth) < 8 := by rw [mul_one_div, div_lt_iff₀ hw]; linarith
  refine ⟨⌊r * (1 / binWidth)⌋.toNat, ?_, ?_⟩
  · have : ⌊r * (1 / binWidth)⌋ < 8 := Int.floor_lt.mpr (by exact_mod_cast hq8)
    have : 0 ≤ ⌊r * (1 / binWidth)⌋ := Int.floor_nonneg.mpr hq
    omega
  · have g8 : ⌊r * (1 / binWidth)⌋ < 8 := Int.floor_lt.mpr (by exact_mod_cast hq8)
    have g0 : 0 ≤ ⌊r * (1 / binWidth)⌋ := Int.floor_nonneg.mpr hq
    unfold binOfDir Ideal.fptosi
    rw [cst_binWidth, Ideal.div_coe hw.ne', ← EReal.coe_mul, Ideal.toIntClamped_coe, if_pos hq]
    generalize ⌊r * (1 / binWidth)⌋ = k at g0 g8
    rw [min_eq_right (by norm_num; omega), max_eq_right (by norm_num; omega)]
    conv_lhs => rw [← Int.toNat_of_nonneg g0]
    exact BitVec.ofInt_natCast ..

theorem clampBin_eq : ∀ n, n < 8 → clampBin (BitVec.ofNat 32 n) = BitVec.ofNat 32 n := by decide

/-! ## The program's vectors, lane by lane -/

theorem dirOf_apply (y x : Vec Ideal S16 .f32) (i : S16.Idx) : dirOf y x i = kDir (y i) (x i) := rfl
theorem binOf_apply (y x : Vec Ideal S16 .f32) (i : S16.Idx) : binOf y x i = clampBin (binOfDir (kDir (y i) (x i))) := rfl

theorem kDir_eq (p q : EReal) : kDir p q = rDir p q := by
  obtain ⟨r, -, -, e1, e2⟩ := dir_eq p q
  rw [e1, e2]

/-- The bin a neighbour falls in. -/
theorem bin_lt (p q : EReal) : ∃ n : Nat, n < 8 ∧ clampBin (binOfDir (kDir p q)) = BitVec.ofNat 32 n ∧ binOfDir (rDir p q) = BitVec.ofNat 32 n := by
  obtain ⟨r, h0, h1, e1, e2⟩ := dir_eq p q
  obtain ⟨n, hn, e⟩ := binOfDir_lt r h0 h1
  exact ⟨n, hn, by rw [e1, e, clampBin_eq n hn], by rw [e2, e]⟩

end Cert.Proof
-- ==== Proof.Sums.lean ====
module

public import proofs.«01_k».proof.Proof.Tile
public import proofs.«01_k».proof.Proof.Arith
public import Idealize.ShloMosaic.Lib.Pointwise

@[expose] public section

/-! What a block's program leaves, over the extended reals: each bin's sums over the block's neighbours, their quotients,
    the directions. -/

noncomputable section

namespace Cert.Proof

open Cert.KernelIdeal Cert.KernelIdeal.Gen
open Idealize.ShloMosaic

section

variable (X : Vec Ideal S16x2048 .f32)

/-- A neighbour's quantities: one, how far it moved, how far it is, its direction. -/
def quant (n : Nat) (hn : n < 128) (f : Nat) : FVec Ideal S16 .f32 :=
  if f = 0 then k0_pay105 (F := Ideal) else if f = 1 then movV X n hn else if f = 2 then dstV X n hn else dirV X n hn

/-- What neighbour `n` adds to quantity `f` of bin `p` of row `l`. -/
def addend (n : Nat) (p f : Nat) (l : Fin 16) : EReal :=
  if h : n < 128 then (if mskV X n h (lane l) = 1 ∧ (binV X n h (lane l)).toNat = p then quant X n h f (lane l) else 0) else 0

theorem addAt_ideal (v : IVec S16 32) (w : FVec Ideal S16 .f32) (mask : IVec S16 1) (f : Vec Ideal S40x16 .f32) (r : Fin 40) (l : Fin 16) :
    (addAt v w mask f (ix2 r l) : EReal)
      = (f (ix2 r l) : EReal) + (if mask (lane l) = 1 ∧ r.val = (v (lane l)).toNat then (w (lane l) : EReal) else 0) := by
  show (if mask (lane l) = 1 ∧ r.val = (v (lane l)).toNat then (f (ix2 r l) : EReal) + (w (lane l) : EReal) else (f (ix2 r l) : EReal)) = _
  by_cases h : mask (lane l) = 1 ∧ r.val = (v (lane l)).toNat
  · rw [if_pos h, if_pos h]
  · rw [if_neg h, if_neg h]; exact (add_zero _).symm

theorem accStep_at (n : Nat) (hn : n < 128) (A : Vec Ideal S40x16 .f32) (p f : Nat) (hf : f < 4) (hr : 4 * p + f < 40) (l : Fin 16) :
    (accStep X n hn A (ix2 ⟨4 * p + f, hr⟩ l) : EReal) = (A (ix2 ⟨4 * p + f, hr⟩ l) : EReal) + addend X n p f l := by
  obtain ⟨h0, h1, h2, h3⟩ := row_toNat (binV X n hn) (bin_le _ _) (lane l)
  unfold accStep addend
  simp only [addAt_ideal, h0, h1, h2, h3, dif_pos hn]
  generalize (binV X n hn (lane l)).toNat = b
  have c0 : (4 * p + f = 4 * b) ↔ (b = p ∧ f = 0) := by omega
  have c1 : (4 * p + f = 4 * b + 1) ↔ (b = p ∧ f = 1) := by omega
  have c2 : (4 * p + f = 4 * b + 2) ↔ (b = p ∧ f = 2) := by omega
  have c3 : (4 * p + f = 4 * b + 3) ↔ (b = p ∧ f = 3) := by omega
  simp only [c0, c1, c2, c3]
  by_cases h : mskV X n hn (lane l) = 1 ∧ b = p
  · obtain ⟨hm, hb⟩ := h
    obtain rfl | rfl | rfl | rfl : f = 0 ∨ f = 1 ∨ f = 2 ∨ f = 3 := by omega
    all_goals simp [hm, hb, quant]
  · have k : ∀ g, ¬(mskV X n hn (lane l) = 1 ∧ b = p ∧ f = g) := fun g e => h ⟨e.1, e.2.1⟩
    simp only [if_neg (k _), if_neg h, add_zero]

theorem accN_at (A : Vec Ideal S40x16 .f32) (p f : Nat) (hf : f < 4) (hr : 4 * p + f < 40) (l : Fin 16) :
    ∀ N, N ≤ 128 → (accN X A N (ix2 ⟨4 * p + f, hr⟩ l) : EReal) = (A (ix2 ⟨4 * p + f, hr⟩ l) : EReal) + ∑ n ∈ Finset.range N, addend X n p f l := by
  intro N
  induction N with
  | zero => intro _; simp [accN]
  | succ N ih =>
    intro hN
    have e : accN X A (N + 1) = accStep X N hN (accN X A N) := by simp only [accN, dif_pos (show N < 128 from hN)]
    rw [e, accStep_at X N hN _ p f hf hr l, ih (by omega), Finset.sum_range_succ, add_assoc]

/-- A bin's sum over all the block's neighbours. -/
theorem acc_at (p f : Nat) (hf : f < 4) (hr : 4 * p + f < 40) (l : Fin 16) :
    (accN X (fun _ => zf (F := Ideal)) 128 (ix2 ⟨4 * p + f, hr⟩ l) : EReal) = ∑ n : Fin 128, addend X n.val p f l := by
  rw [accN_at X _ p f hf hr l 128 le_rfl, Finset.sum_range]
  show (Ideal.ofBits .f32 0x00000000#32 : EReal) + _ = _
  rw [Ideal.ofBits_zero_f32, zero_add]

theorem row_at (A : Vec Ideal S40x16 .f32) (r : Nat) (hr : r < 40) (l : Fin 16) :
    shapeCast S16 (rowOf A r hr) shapeCasts_S1x16_S16 (lane l) = A (ix2 ⟨r, hr⟩ l) := by
  have e : lane l = ix1 l := by funext a; match a with | 0 => rfl
  rw [e]
  pointwise
  rfl

theorem outN_at (A : Vec Ideal S40x16 .f32) (g : Vec Ideal S16x24 .f32) (l : Fin 16) (p f : Nat) (hf : f < 3) (hc : 3 * p + f < 24) :
    (outN A 24 g (ix2 l ⟨3 * p + f, hc⟩) : EReal)
      = Ideal.div (A (ix2 ⟨4 * p + (f + 1), by omega⟩ l)) ((A (ix2 ⟨4 * p + 0, by omega⟩ l) : EReal) + cst 0x38D1B717#32) := by
  have e : outN A 24 g (ix2 l ⟨3 * p + f, hc⟩) = meanV A (3 * p + f) hc (lane l) := if_pos hc
  have e1 : (⟨4 * ((3 * p + f) / 3) + (3 * p + f) % 3 + 1, by omega⟩ : Fin 40) = ⟨4 * p + (f + 1), by omega⟩ := Fin.ext (by dsimp only; omega)
  have e2 : (⟨4 * ((3 * p + f) / 3), by omega⟩ : Fin 40) = ⟨4 * p + 0, by omega⟩ := Fin.ext (by dsimp only; omega)
  rw [e, ← e1, ← e2, ← row_at A _ _ l, ← row_at A _ _ l]
  rfl

theorem outB_at (l : Fin 16) (p f : Nat) (hf : f < 3) (hc : 3 * p + f < 24) :
    (outB X (ix2 l ⟨3 * p + f, hc⟩) : EReal)
      = Ideal.div (∑ n : Fin 128, addend X n.val p (f + 1) l) ((∑ n : Fin 128, addend X n.val p 0 l) + cst 0x38D1B717#32) := by
  rw [outB, outN_at _ _ l p f hf hc, acc_at X p (f + 1) (by omega) (by omega) l, acc_at X p 0 (by omega) (by omega) l]

theorem dirN_at (B : Vec Ideal S16x128 .f32) (l : Fin 16) (c : Nat) (hc : c < 128) :
    ∀ N, N ≤ 128 → dirN X B N (ix2 l ⟨c, hc⟩) = if c < N then dirV X c hc (lane l) else B (ix2 l ⟨c, hc⟩) := by
  intro N
  induction N with
  | zero => intro _; simp [dirN]
  | succ N ih =>
    intro hN
    have e : dirN X B (N + 1) = setCol N (dirV X N hN) (dirN X B N) := by simp only [dirN, dif_pos (show N < 128 from hN)]
    rw [e]
    show (if c = N then dirV X N hN (lane l) else dirN X B N (ix2 l ⟨c, hc⟩)) = _
    rw [ih (by omega)]
    by_cases h : c = N
    · subst h; rw [if_pos rfl, if_pos (by omega)]
    · rw [if_neg h]
      have : c < N ↔ c < N + 1 := by omega
      simp only [this]

/-- The block's directions. -/
theorem dirB_at (l : Fin 16) (c : Nat) (hc : c < 128) : dirB X (ix2 l ⟨c, hc⟩) = dirV X c hc (lane l) := by
  rw [dirB, dirN_at X _ l c hc 128 le_rfl, if_pos hc]

end

end Cert.Proof
-- ==== Proof.RefRead.lean ====
module

public import proofs.«01_k».proof.Proof.Arith
public import proofs.«01_k».proof.Proof.Gen.ReferenceIdeal.Run
public import Idealize.ShloMosaic.Lib.Pointwise
public import Idealize.ShloMosaic.Lib.Tactic.CleanTypes

@[expose] public section

/-! The reference's values, element by element, from the neighbours' positions. -/

noncomputable section

namespace Cert.Reading

open Idealize.ShloMosaic Idealize.SL.Sem Cert.ReferenceIdeal Cert.ReferenceIdeal.Value Cert.ReferenceIdeal.Gen

variable (V0 : Valuation τ sig (Elt Ideal))

/-- The neighbours' positions. -/
abbrev pos : FVec Ideal S16384x128x8x2 .f32 := V0 (Proc.devRef .tc main_arg1)

/-- Coordinate `k` at frame `t` of neighbour `n` of track `b`. -/
abbrev at4 (b : Fin 16384) (n : Fin 128) (t : Fin 8) (k : Fin 2) : EReal := pos V0 (ix4 b n t k)

theorem read_px (b : Fin 16384) (n : Fin 128) : res_main_v12 V0 (ix2 b n) = at4 V0 b n 7 0 := by
  unfold res_main_v12 res_main_v6; clean_types; pointwise

theorem read_py (b : Fin 16384) (n : Fin 128) : res_main_v10 V0 (ix2 b n) = at4 V0 b n 7 1 := by
  unfold res_main_v10 res_main_v6; clean_types; pointwise

theorem read_dir' (i : S16384x128.Idx) : res_main_v68 V0 i = Proof.rDir (res_main_v12 V0 i) (res_main_v10 V0 i) := rfl

/-- The direction of neighbour `n` of track `b`. -/
theorem read_dir (b : Fin 16384) (n : Fin 128) : res_main_v68 V0 (ix2 b n) = Proof.rDir (at4 V0 b n 7 0) (at4 V0 b n 7 1) := by
  rw [read_dir', read_px, read_py]

/-- How far the neighbour moved, how far it is. -/
def mov (b : Fin 16384) (n : Fin 128) : EReal :=
  Ideal.sqrt (∑ k : Fin 2, (at4 V0 b n 7 k - at4 V0 b n 0 k) * (at4 V0 b n 7 k - at4 V0 b n 0 k))
def dst (b : Fin 16384) (n : Fin 128) : EReal := Ideal.sqrt (∑ k : Fin 2, at4 V0 b n 7 k * at4 V0 b n 7 k)

theorem read_mov (b : Fin 16384) (n : Fin 128) :
    Host.sqrt (Host.reduceAdd (mulf (res_main_v4 V0) (res_main_v4 V0)) (constant S_ .f32 0x00000000#32) reducesTo_S16384x128x2_S16384x128_d2 h_S_) (ix2 b n)
      = mov V0 b n := by
  unfold mov res_main_v4; clean_types; pointwise

theorem read_dst (b : Fin 16384) (n : Fin 128) :
    Host.sqrt (Host.reduceAdd (mulf (res_main_v6 V0) (res_main_v6 V0)) (constant S_ .f32 0x00000000#32) reducesTo_S16384x128x2_S16384x128_d2 h_S_) (ix2 b n)
      = dst V0 b n := by
  unfold dst res_main_v6; clean_types; pointwise

/-- Whether the neighbour is there: its coordinates' sum isn't zero. -/
def here (b : Fin 16384) (n : Fin 128) : BitVec 1 :=
  Ideal.cmp .ogt (Proof.mag (∑ t : Fin 8, ∑ k : Fin 2, at4 V0 b n t k)) (Proof.cst 0x358637BD#32)

/-- A sum over the last two axes, the later named first. -/
theorem sum_last (x : FVec Ideal S16384x128x8x2 .f32) (b : Fin 16384) (n : Fin 128) :
    Ideal.hostReduceAdd reducesTo_S16384x128x8x2_S16384x128_d3_2 x 0 (ix2 b n) = ∑ t : Fin 8, ∑ k : Fin 2, x (ix4 b n t k) := by
  have h : S16384x128x8x2.ReducesTo [2, 3] S16384x128 := by decide
  have e : reducesTo_S16384x128x8x2_S16384x128_d3_2.drop = h.drop := by
    funext i a
    apply Fin.ext
    match a with
    | ⟨0, _⟩ => rfl
    | ⟨1, _⟩ => rfl
  have e' : Ideal.hostReduceAdd reducesTo_S16384x128x8x2_S16384x128_d3_2 x 0 (ix2 b n) = Ideal.hostReduceAdd h x 0 (ix2 b n) := by
    unfold Ideal.hostReduceAdd; rw [e]
  rw [e']; pointwise

theorem read_here (b : Fin 16384) (n : Fin 128) : res_main_v76 V0 (ix2 b n) = BitVec.setWidth 32 (here V0 b n) := by
  unfold here res_main_v76; clean_types; pointwise
  rw [sum_last]; rfl

/-- The bin of neighbour `n` of track `b`, minus one when it isn't there. -/
def binWord (b : Fin 16384) (n : Fin 128) : BitVec 32 :=
  let h := BitVec.setWidth 32 (here V0 b n)
  Proof.binOfDir (Proof.rDir (at4 V0 b n 7 0) (at4 V0 b n 7 1)) * h + 4294967295#32 * (1#32 - h)

theorem read_hot (b : Fin 16384) (p : Fin 8) (n : Fin 128) :
    res_main_v89 V0 (ix3 b p n) = FloatOps.uitofp (F := Ideal) .f32 (IntOp.cmpi .eq (binWord V0 b n) (BitVec.ofNat 32 p.val)) := by
  unfold res_main_v89; clean_types; pointwise
  rw [read_dir, read_here]; rfl

/-- One where the neighbour is there and its bin is `p`, zero elsewhere. -/
abbrev hot (b : Fin 16384) (p : Fin 8) (n : Fin 128) : EReal :=
  FloatOps.uitofp (F := Ideal) .f32 (IntOp.cmpi .eq (binWord V0 b n) (BitVec.ofNat 32 p.val))

/-- The mean, in bin `p` of track `b`, of a quantity of each neighbour. -/
def mean (w : Fin 16384 → Fin 128 → EReal) (b : Fin 16384) (p : Fin 8) : EReal :=
  Ideal.div (∑ n : Fin 128, w b n * hot V0 b p n) ((∑ n : Fin 128, hot V0 b p n) + Proof.cst 0x38D1B717#32)

/-- The reference's binned mean of a vector of quantities. -/
def meanTerm (w : FVec Ideal S16384x128 .f32) : FVec Ideal S16384x8x1 .f32 :=
  broadcastInDim S16384x8x1 ![0, 1] bcast_S16384x8_S16384x8x1_0_1 (Host.divf (Host.reduceAdd (mulf (broadcastInDim S16384x8x128 ![0, 1, 2] bcast_S16384x1x128_S16384x8x128_0_1_2 (broadcastInDim S16384x1x128 ![0, 2] bcast_S16384x128_S16384x1x128_0_2 w)) (res_main_v89 V0)) (constant S_ .f32 0x00000000#32) reducesTo_S16384x8x128_S16384x8_d2 h_S_) (res_main_v92 V0))

theorem read_mean (w : FVec Ideal S16384x128 .f32) (b : Fin 16384) (p : Fin 8) :
    meanTerm V0 w (ix3 b p 0) = mean V0 (fun b n => w (ix2 b n)) b p := by
  unfold meanTerm mean res_main_v92; clean_types; pointwise
  simp only [read_hot]

/-- The reference's first result, read as three means. -/
def circle : FVec Ideal S16384x8x3 .f32 := fun j =>
  if (j 2).val < 1 then mean V0 (mov V0) (j 0) (j 1) else if (j 2).val < 2 then mean V0 (dst V0) (j 0) (j 1)
    else mean V0 (fun b n => Proof.rDir (at4 V0 b n 7 0) (at4 V0 b n 7 1)) (j 0) (j 1)

theorem read_circle (wm wd wr : FVec Ideal S16384x128 .f32) (hm : ∀ b n, wm (ix2 b n) = mov V0 b n) (hd : ∀ b n, wd (ix2 b n) = dst V0 b n)
    (hr : ∀ b n, wr (ix2 b n) = Proof.rDir (at4 V0 b n 7 0) (at4 V0 b n 7 1)) :
    concatenate S16384x8x3 2 [⟨S16384x8x1, meanTerm V0 wm⟩, ⟨S16384x8x1, meanTerm V0 wd⟩, ⟨S16384x8x1, meanTerm V0 wr⟩]
      concatenates_S16384x8x1_S16384x8x1_S16384x8x1_S16384x8x3_d2 = circle V0 := by
  have e : ∀ w b p (z : Fin 1), meanTerm V0 w (ix3 b p z) = mean V0 (fun b n => w (ix2 b n)) b p := fun w b p z => by
    rw [Subsingleton.elim z 0]; exact read_mean V0 w b p
  funext j
  idx_vars j
  unfold circle
  pointwise
  fin_vals j2 with hk
  all_goals simp only [hk, e, hm, hd, hr, Nat.reduceSub, Nat.reduceLT, ↓reduceDIte, ↓reduceIte]

end Cert.Reading
-- ==== Proof.Agree.lean ====
module

public import proofs.«01_k».proof.Proof.Sums
public import proofs.«01_k».proof.Proof.RefRead

@[expose] public section

/-! The two results, over the extended reals, element by element: the program's are the reference's. -/

noncomputable section

namespace Cert.Reading

open Idealize.ShloMosaic Idealize.SL.Sem
open Cert.Proof (lane word blk colOf mskV movV dstV dirV binV addend quant)

variable (V0 : Valuation Cert.ReferenceIdeal.τ Cert.ReferenceIdeal.sig (Elt Ideal))

/-- The positions as the program's tasks read them: a track's neighbours, frames and coordinates in one row. -/
def rows : Vec Ideal Cert.KernelIdeal.S16384x2048 .f32 :=
  shapeCast Cert.KernelIdeal.S16384x2048 (pos V0 : Vec Ideal Cert.KernelIdeal.S16384x128x8x2 .f32) Cert.KernelIdeal.Gen.shapeCasts_S16384x128x8x2_S16384x2048

/-- The block of track `b`, and `b`'s row of it. -/
abbrev blockOf (b : Fin 16384) : Vec Ideal Cert.KernelIdeal.S16x2048 .f32 := blk (rows V0) (16 * (b.val / 16))
abbrev rowIn (b : Fin 16384) : Fin 16 := ⟨b.val % 16, Nat.mod_lt _ (by decide)⟩

theorem rows_at (b : Fin 16384) (n j : Nat) (hn : n < 128) (hj : j < 16) :
    rows V0 (ix2 b ⟨16 * n + j, by omega⟩) = at4 V0 b ⟨n, hn⟩ ⟨j / 2, by omega⟩ ⟨j % 2, by omega⟩ := by
  unfold rows
  pointwise
  have en : (⟨(16 * n + j) / 16, by omega⟩ : Fin 128) = ⟨n, hn⟩ := Fin.ext (by dsimp only; omega)
  have et : (⟨(16 * n + j) / 2 % 8, by omega⟩ : Fin 8) = ⟨j / 2, by omega⟩ := Fin.ext (by dsimp only; omega)
  have ek : (⟨(16 * n + j) % 2, by omega⟩ : Fin 2) = ⟨j % 2, by omega⟩ := Fin.ext (by dsimp only; omega)
  rw [en, et, ek]

theorem word_at (b : Fin 16384) (n j : Nat) (hn : n < 128) (hj : j < 16) :
    word (blockOf V0 b) n hn j hj (lane (rowIn b)) = at4 V0 b ⟨n, hn⟩ ⟨j / 2, by omega⟩ ⟨j % 2, by omega⟩ := by
  rw [← rows_at V0 b n j hn hj]
  have e : (⟨(16 * (b.val / 16) + b.val % 16) % 16384, Nat.mod_lt _ (by decide)⟩ : Fin 16384) = b := Fin.ext (by have := b.isLt; dsimp only; omega)
  show rows V0 (Cert.Proof.ix2 (m := 16384) (n := 2048) (⟨(16 * (b.val / 16) + b.val % 16) % 16384, Nat.mod_lt _ (by decide)⟩ : Fin 16384) ⟨16 * n + j, by omega⟩) = _
  rw [e]
  congr 1
  funext a
  match a with
  | ⟨0, _⟩ => rfl
  | ⟨1, _⟩ => rfl

section

variable (b : Fin 16384) (n : Fin 128)

theorem mov_at : movV (blockOf V0 b) n.val n.isLt (lane (rowIn b)) = mov V0 b n := by
  have e0 := word_at V0 b n.val 0 n.isLt (by decide)
  have e1 := word_at V0 b n.val 1 n.isLt (by decide)
  have e14 := word_at V0 b n.val 14 n.isLt (by decide)
  have e15 := word_at V0 b n.val 15 n.isLt (by decide)
  unfold mov
  rw [Fin.sum_univ_two]
  show Ideal.sqrt ((word (blockOf V0 b) n.val n.isLt 14 (by decide) (lane (rowIn b)) - word (blockOf V0 b) n.val n.isLt 0 (by decide) (lane (rowIn b)))
      * (word (blockOf V0 b) n.val n.isLt 14 (by decide) (lane (rowIn b)) - word (blockOf V0 b) n.val n.isLt 0 (by decide) (lane (rowIn b)))
    + (word (blockOf V0 b) n.val n.isLt 15 (by decide) (lane (rowIn b)) - word (blockOf V0 b) n.val n.isLt 1 (by decide) (lane (rowIn b)))
      * (word (blockOf V0 b) n.val n.isLt 15 (by decide) (lane (rowIn b)) - word (blockOf V0 b) n.val n.isLt 1 (by decide) (lane (rowIn b)))) = _
  rw [e0, e1, e14, e15]
  rfl

theorem dst_at : dstV (blockOf V0 b) n.val n.isLt (lane (rowIn b)) = dst V0 b n := by
  have e14 := word_at V0 b n.val 14 n.isLt (by decide)
  have e15 := word_at V0 b n.val 15 n.isLt (by decide)
  unfold dst
  rw [Fin.sum_univ_two]
  show Ideal.sqrt (word (blockOf V0 b) n.val n.isLt 14 (by decide) (lane (rowIn b)) * word (blockOf V0 b) n.val n.isLt 14 (by decide) (lane (rowIn b))
    + word (blockOf V0 b) n.val n.isLt 15 (by decide) (lane (rowIn b)) * word (blockOf V0 b) n.val n.isLt 15 (by decide) (lane (rowIn b))) = _
  rw [e14, e15]
  rfl

theorem dir_at : dirV (blockOf V0 b) n.val n.isLt (lane (rowIn b)) = Cert.Proof.rDir (at4 V0 b n 7 0) (at4 V0 b n 7 1) := by
  unfold dirV
  rw [Cert.Proof.dirOf_apply, word_at V0 b n.val 14 n.isLt (by decide), word_at V0 b n.val 15 n.isLt (by decide), Cert.Proof.kDir_eq]
  rfl

theorem here_at : mskV (blockOf V0 b) n.val n.isLt (lane (rowIn b)) = here V0 b n := by
  have e := fun j hj => word_at V0 b n.val j n.isLt hj
  unfold here
  simp only [Fin.sum_univ_eight, Fin.sum_univ_two]
  let w := fun (j : Nat) (hj : j < 16) => (word (blockOf V0 b) n.val n.isLt j hj (lane (rowIn b)) : EReal)
  show Ideal.cmp .ogt (Cert.Proof.mag ((((w 0 (by decide) + w 1 (by decide)) + (w 2 (by decide) + w 3 (by decide)))
      + ((w 4 (by decide) + w 5 (by decide)) + (w 6 (by decide) + w 7 (by decide))))
    + (((w 8 (by decide) + w 9 (by decide)) + (w 10 (by decide) + w 11 (by decide)))
      + ((w 12 (by decide) + w 13 (by decide)) + (w 14 (by decide) + w 15 (by decide)))))) _ = _
  simp only [w, e]
  refine congrArg (fun x => Ideal.cmp .ogt (Cert.Proof.mag x) _) ?_
  simp only [add_assoc]
  rfl

end

/-! ## The bins -/

theorem hot_word : ∀ k : Fin 8, ∀ p : Fin 8, ∀ h : Fin 2,
    (IntOp.cmpi .eq (BitVec.ofNat 32 k.val * BitVec.setWidth 32 (BitVec.ofFin (w := 1) h) + 4294967295#32 * (1#32 - BitVec.setWidth 32 (BitVec.ofFin (w := 1) h))) (BitVec.ofNat 32 p.val)).toNat
      = if BitVec.ofFin (w := 1) h = 1 ∧ k.val = p.val then 1 else 0 := by decide

theorem hot_at (b : Fin 16384) (p : Fin 8) (n : Fin 128) :
    hot V0 b p n = if mskV (blockOf V0 b) n.val n.isLt (lane (rowIn b)) = 1 ∧ (binV (blockOf V0 b) n.val n.isLt (lane (rowIn b))).toNat = p.val then 1 else 0 := by
  obtain ⟨k, hk, e1, e2⟩ := Cert.Proof.bin_lt (at4 V0 b n 7 0) (at4 V0 b n 7 1)
  have eb : binV (blockOf V0 b) n.val n.isLt (lane (rowIn b)) = BitVec.ofNat 32 k := by
    unfold binV
    rw [Cert.Proof.binOf_apply, word_at V0 b n.val 14 n.isLt (by decide), word_at V0 b n.val 15 n.isLt (by decide), ← e1]
    rfl
  have ek : (BitVec.ofNat 32 k).toNat = k := by rw [BitVec.toNat_ofNat]; omega
  have h := hot_word ⟨k, hk⟩ p (here V0 b n).toFin
  rw [here_at, eb, ek]
  show (((IntOp.cmpi .eq (binWord V0 b n) (BitVec.ofNat 32 p.val)).toNat : ℝ) : EReal) = _
  unfold binWord
  rw [e2]
  dsimp only at h ⊢
  rw [h]
  by_cases c : here V0 b n = 1 ∧ k = p.val
  · rw [if_pos c, if_pos c]; simp
  · rw [if_neg c, if_neg c]; simp

/-- What a neighbour adds to a bin: its quantity, where it is there and its bin is this one. -/
theorem addend_at (b : Fin 16384) (p : Fin 8) (n : Fin 128) (f : Nat) :
    addend (blockOf V0 b) n.val p.val f (rowIn b) = quant (blockOf V0 b) n.val n.isLt f (lane (rowIn b)) * hot V0 b p n := by
  rw [hot_at, mul_ite, mul_one, mul_zero, addend, dif_pos n.isLt]

theorem one_at (b : Fin 16384) (n : Fin 128) : (quant (blockOf V0 b) n.val n.isLt 0 (lane (rowIn b)) : EReal) = 1 := Ideal.ofBits_one_f32

/-! ## The results -/

theorem mean_at (b : Fin 16384) (p : Fin 8) (f : Nat) (hf : f < 3) (w : Fin 16384 → Fin 128 → EReal)
    (hw : ∀ n : Fin 128, quant (blockOf V0 b) n.val n.isLt (f + 1) (lane (rowIn b)) = w b n) :
    Cert.Proof.outB (blockOf V0 b) (Cert.Proof.ix2 (m := 16) (n := 24) (rowIn b) ⟨3 * p.val + f, by omega⟩) = mean V0 w b p := by
  refine (Cert.Proof.outB_at (blockOf V0 b) (rowIn b) p.val f hf (by omega)).trans ?_
  unfold mean
  simp only [addend_at, one_at, one_mul, hw]

/-- The directions. -/
theorem dirs_at : Cert.Proof.dirsOf (rows V0) = Cert.ReferenceIdeal.Value.res_main_v68 V0 := by
  funext i
  obtain ⟨b, n, rfl⟩ : ∃ (b : Fin 16384) (n : Fin 128), i = ix2 b n := ⟨i 0, i 1, eq_ix2 i⟩
  rw [read_dir]
  exact (Cert.Proof.dirB_at (blockOf V0 b) (rowIn b) n.val n.isLt).trans (dir_at V0 b n)

/-- The binned means. -/
theorem circle_at : shapeCast Cert.KernelIdeal.S16384x8x3 (Cert.Proof.meansOf (rows V0)) Cert.KernelIdeal.Gen.shapeCasts_S16384x24_S16384x8x3 = circle V0 := by
  funext i
  obtain ⟨b, p, f, rfl⟩ : ∃ (b : Fin 16384) (p : Fin 8) (f : Fin 3), i = ix3 b p f := ⟨i 0, i 1, i 2, eq_ix3 i⟩
  have e : shapeCast Cert.KernelIdeal.S16384x8x3 (Cert.Proof.meansOf (rows V0)) Cert.KernelIdeal.Gen.shapeCasts_S16384x24_S16384x8x3 (ix3 b p f)
      = Cert.Proof.meansOf (rows V0) (ix2 b ⟨3 * p.val + f.val, by omega⟩) := by
    pointwise
    have ec : (⟨p.val * 3 + f.val, by omega⟩ : Fin 24) = ⟨3 * p.val + f.val, by omega⟩ := Fin.ext (by dsimp only; omega)
    rw [ec]
  rw [e]
  match f with
  | ⟨0, _⟩ => exact mean_at V0 b p 0 (by decide) (mov V0) (fun n => mov_at V0 b n)
  | ⟨1, _⟩ => exact mean_at V0 b p 1 (by decide) (dst V0) (fun n => dst_at V0 b n)
  | ⟨2, _⟩ => exact mean_at V0 b p 2 (by decide) (fun b n => Cert.Proof.rDir (at4 V0 b n 7 0) (at4 V0 b n 7 1)) (fun n => dir_at V0 b n)

end Cert.Reading
-- ==== Proof.Algebraic.lean ====
module

public import proofs.«01_k».proof.Proof.Frames
public import proofs.«01_k».proof.Proof.Agree

@[expose] public section

/-! The two programs' results are equal as extended reals. -/

noncomputable section

namespace Cert.Reading

open Idealize.ShloMosaic Idealize.SL.Sem

theorem algebraic : Cert.algebraic_KernelIdeal_ReferenceIdeal := by
  intro m g m' g' _ hargs
  refine ⟨fun c => circle (StableHlo.launchContents m' c), fun c => Cert.ReferenceIdeal.Value.res_main_v68 (StableHlo.launchContents m' c), ?_, ?_⟩
  · refine (θ_run Cert.KernelIdeal.defs _ _).mono (fun r h c => ?_) (Cert.Proof.run_main (F := Ideal) m g)
    obtain ⟨h0, h1, hr, hf⟩ := h.1 c
    have e : Cert.Proof.flat m c = rows (StableHlo.launchContents m' c) :=
      congrArg (fun x : Vec Ideal Cert.KernelIdeal.S16384x128x8x2 .f32 =>
        shapeCast Cert.KernelIdeal.S16384x2048 x Cert.KernelIdeal.Gen.shapeCasts_S16384x128x8x2_S16384x2048) (hargs c).2.symm
    refine ⟨hr.trans ?_, hf.trans ?_, h0, h1⟩
    · dsimp only; rw [← circle_at, ← e]; rfl
    · dsimp only; rw [← dirs_at, ← e]; rfl
  · refine (θ_run Cert.ReferenceIdeal.defs _ _).mono (fun r h c => ?_) (Cert.ReferenceIdeal.Value.run (F := Ideal) m' g')
    obtain ⟨hr, hf, h0, h1⟩ := h c
    exact ⟨hr.trans (read_circle _ _ _ _ (read_mov _) (read_dst _) (read_dir _)), hf, h0, h1⟩

end Cert.Reading
-- ==== Proof.lean ====
/- The certificate: the three programs' frames (module Frames), the idealized kernel's text being the
   kernel's, and the equality of the idealized kernel and reference (module Algebraic). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Algebraic

@[expose] public section

noncomputable section

namespace Cert.Proof

open Idealize.ShloMosaic Idealize.SL.Sem Cert.Kernel

/-- Every claim about the kernel and its reference. -/
theorem claim : Cert.Claim := ⟨Cert.Kernel.Gen.facts, Cert.KernelIdeal.Gen.facts, Cert.ReferenceIdeal.Gen.facts,
  frame_kernel, frame_ideal, frame_reference, trivial, Cert.Reading.algebraic⟩

end Cert.Proof

end
